-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed_finite_KernelIdeal [hPre_routed_finite_KernelIdeal : Cert.Pre_routed_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_routed_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed_finite_ReferenceIdeal [hPre_routed_finite_ReferenceIdeal : Cert.Pre_routed_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_routed_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_routed_finite_KernelIdeal [hKernelIdeal : Cert.KernelIdeal.Facts] [hPre_routed_finite_KernelIdeal : Cert.Pre_routed_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_routed_finite_ReferenceIdeal [hReferenceIdeal : Cert.ReferenceIdeal.Facts] [hPre_routed_finite_ReferenceIdeal : Cert.Pre_routed_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_routed_finite_KernelIdeal [hKernelIdeal : Cert.KernelIdeal.Facts] [hReferenceIdeal : Cert.ReferenceIdeal.Facts] [hPre_routed_finite_KernelIdeal : Cert.Pre_routed_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![4, 512, 1024]⟩ ⟨3, ![64, 512, 1024]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 1024]⟩ ⟨2, ![2048, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_routed_finite_KernelIdeal : Cert.Pre_routed_finite_KernelIdeal.Facts) (hPre_routed_finite_ReferenceIdeal : Cert.Pre_routed_finite_ReferenceIdeal.Facts),
    quiescent_Kernel (hKernel := hKernel)
    ∧ quiescent_KernelIdeal (hKernelIdeal := hKernelIdeal)
    ∧ quiescent_KernelIdeal_pre_routed_finite_KernelIdeal (hKernelIdeal := hKernelIdeal) (hPre_routed_finite_KernelIdeal := hPre_routed_finite_KernelIdeal)
    ∧ quiescent_ReferenceIdeal (hReferenceIdeal := hReferenceIdeal)
    ∧ quiescent_ReferenceIdeal_pre_routed_finite_ReferenceIdeal (hReferenceIdeal := hReferenceIdeal) (hPre_routed_finite_ReferenceIdeal := hPre_routed_finite_ReferenceIdeal)
    ∧ preserves_Kernel_KernelIdeal
    ∧ algebraic_KernelIdeal_ReferenceIdeal_pre_routed_finite_KernelIdeal (hKernelIdeal := hKernelIdeal) (hReferenceIdeal := hReferenceIdeal) (hPre_routed_finite_KernelIdeal := hPre_routed_finite_KernelIdeal)
-- ==== Pre_routed_finite_KernelIdeal.lean ====
abbrev S2048x512 : Shape := ⟨2, ![2048, 512]⟩
abbrev S512x64 : Shape := ⟨2, ![512, 64]⟩
abbrev S2048x2 : Shape := ⟨2, ![2048, 2]⟩
abbrev S4x512x1024 : Shape := ⟨3, ![4, 512, 1024]⟩
abbrev S_ : Shape := ⟨0, ![]⟩

class Facts : Prop where
  bcast_S_S2048x2 : S_.BroadcastsInDim S2048x2 (![] : Fin 0 → Fin S2048x2.rank)
  bcast_S_S2048x512 : S_.BroadcastsInDim S2048x512 (![] : Fin 0 → Fin S2048x512.rank)
  bcast_S_S512x64 : S_.BroadcastsInDim S512x64 (![] : Fin 0 → Fin S512x64.rank)

variable [Facts]

def fn {F : FTy → Type} [FloatOps F] (main_arg0 : FVec F S2048x512 .f32) (main_arg1 : FVec F S512x64 .f32) (main_arg2 : IVec S2048x2 32) (main_arg3 : FVec F S4x512x1024 .f32) : IVec S2048x512 1 × IVec S512x64 1 × IVec S2048x2 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : FVec F S2048x512 .f32 := Host.absf main_arg0
  let main_cst : FVec F S_ .f32 := constant S_ .f32 0x7F800000#32
  let main_v6 : FVec F S2048x512 .f32 := broadcastInDim S2048x512 ![] bcast_S_S2048x512 main_cst
  let main_v7 : IVec S2048x512 1 := cmpf .olt main_v5 main_v6
  let main_v8 : FVec F S512x64 .f32 := Host.absf main_arg1
  let main_cst_1 : FVec F S_ .f32 := constant S_ .f32 0x7F800000#32
  let main_v9 : FVec F S512x64 .f32 := broadcastInDim S512x64 ![] bcast_S_S512x64 main_cst_1
  let main_v10 : IVec S512x64 1 := cmpf .olt main_v8 main_v9
  (main_v7, main_v10, main_v4)
-- ==== Pre_routed_finite_ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S_ : Shape := ⟨0, ![]⟩

class Facts : Prop where
  bcast_S_S2048x2 : S_.BroadcastsInDim S2048x2 (![] : Fin 0 → Fin S2048x2.rank)
  bcast_S_S2048x512 : S_.BroadcastsInDim S2048x512 (![] : Fin 0 → Fin S2048x512.rank)
  bcast_S_S512x64 : S_.BroadcastsInDim S512x64 (![] : Fin 0 → Fin S512x64.rank)

variable [Facts]

def fn {F : FTy → Type} [FloatOps F] (main_arg0 : FVec F S2048x512 .f32) (main_arg1 : FVec F S512x64 .f32) (main_arg2 : IVec S2048x2 32) (main_arg3 : FVec F S64x512x1024 .f32) : IVec S2048x512 1 × IVec S512x64 1 × IVec S2048x2 1 :=
  let main_c : IVec S_ 32 := constantI S_ 32 0#32
  let main_v0 : IVec S2048x2 32 := broadcastInDim S2048x2 ![] bcast_S_S2048x2 main_c
  let main_v1 : IVec S2048x2 1 := cmpi .sge main_arg2 main_v0
  let main_c_0 : IVec S_ 32 := constantI S_ 32 64#32
  let main_v2 : IVec S2048x2 32 := broadcastInDim S2048x2 ![] bcast_S_S2048x2 main_c_0
  let main_v3 : IVec S2048x2 1 := cmpi .slt main_arg2 main_v2
  let main_v4 : IVec S2048x2 1 := andi main_v1 main_v3
  let main_v5 : FVec F S2048x512 .f32 := Host.absf main_arg0
  let main_cst : FVec F S_ .f32 := constant S_ .f32 0x7F800000#32
  let main_v6 : FVec F S2048x512 .f32 := broadcastInDim S2048x512 ![] bcast_S_S2048x512 main_cst
  let main_v7 : IVec S2048x512 1 := cmpf .olt main_v5 main_v6
  let main_v8 : FVec F S512x64 .f32 := Host.absf main_arg1
  let main_cst_1 : FVec F S_ .f32 := constant S_ .f32 0x7F800000#32
  let main_v9 : FVec F S512x64 .f32 := broadcastInDim S512x64 ![] bcast_S_S512x64 main_cst_1
  let main_v10 : IVec S512x64 1 := cmpf .olt main_v8 main_v9
  (main_v7, main_v10, main_v4)
-- ==== Kernel.lean ====
abbrev S2048x512 : Shape := ⟨2, ![2048, 512]⟩
abbrev S512x64 : Shape := ⟨2, ![512, 64]⟩
abbrev S2048x2 : Shape := ⟨2, ![2048, 2]⟩
abbrev S4x512x1024 : Shape := ⟨3, ![4, 512, 1024]⟩
abbrev S128x1024 : Shape := ⟨2, ![128, 1024]⟩
abbrev S2048x4 : Shape := ⟨2, ![2048, 4]⟩
abbrev S512x512 : Shape := ⟨2, ![512, 512]⟩
abbrev S128x512 : Shape := ⟨2, ![128, 512]⟩
abbrev S3x512x512 : Shape := ⟨3, ![3, 512, 512]⟩
abbrev S3x128x512 : Shape := ⟨3, ![3, 128, 512]⟩
abbrev S_ : Shape := ⟨0, ![]⟩
abbrev S3 : Shape := ⟨1, ![3]⟩
abbrev S2048x64 : Shape := ⟨2, ![2048, 64]⟩
abbrev S2048x1 : Shape := ⟨2, ![2048, 1]⟩
abbrev S1x64 : Shape := ⟨2, ![1, 64]⟩
abbrev S2048 : Shape := ⟨1, ![2048]⟩
abbrev S128x1 : Shape := ⟨2, ![128, 1]⟩
abbrev S128x2048 : Shape := ⟨2, ![128, 2048]⟩
abbrev S512x2048 : Shape := ⟨2, ![512, 2048]⟩
abbrev S4x512x512 : Shape := ⟨3, ![4, 512, 512]⟩
abbrev S1 : Shape := ⟨1, ![1]⟩
abbrev S1x512x512 : Shape := ⟨3, ![1, 512, 512]⟩
abbrev S1x128x512 : Shape := ⟨3, ![1, 128, 512]⟩

abbrev nBuf : Space → Nat
  | .hbm => 5
  | .vmem => 16
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S4x512x1024, .f32⟩
  | .hbm, ⟨4, _⟩ => ⟨S128x1024, .f32⟩
  | .local _ .vmem, ⟨0, _⟩ => ⟨S2048x512, .f32⟩
  | .local _ .vmem, ⟨1, _⟩ => ⟨S512x64, .f32⟩
  | .local _ .vmem, ⟨2, _⟩ => ⟨S2048x2, .i32⟩
  | .local _ .vmem, ⟨3, _⟩ => ⟨S4x512x1024, .f32⟩
  | .local _ .vmem, ⟨4, _⟩ => ⟨S128x1024, .f32⟩
  | .local _ .vmem, ⟨5, _⟩ => ⟨S2048x4, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S128x512, .bf16⟩
  | .local _ .vmem, ⟨11, _⟩ => ⟨S128x512, .bf16⟩
  | .local _ .vmem, ⟨12, _⟩ => ⟨S3x512x512, .bf16⟩
  | .local _ .vmem, ⟨13, _⟩ => ⟨S3x512x512, .bf16⟩
  | .local _ .vmem, ⟨14, _⟩ => ⟨S3x128x512, .bf16⟩
  | .local _ .vmem, ⟨15, _⟩ => ⟨S3x128x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 1 → Bool
  | ⟨0, _⟩ => false
  | _ => false

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  (ofTc nBuf bufTy 1 21 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_scratch9 : Ref sig .tc := ⟨.vmem, 14, rfl⟩
abbrev cc0_scratch10 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c8_i32 : BitVec 32 := 8#32
  let v7 : BitVec 32 := Scalar.addi v6 c8_i32
  let c4_i32_3 : BitVec 32 := 4#32
  let v8 : BitVec 32 := Scalar.remsi v7 c4_i32_3
  let v9 : BitVec 32 := Scalar.addi v5 v8
  let c1_i32_17 : BitVec 32 := 1#32
  let v26 : BitVec 32 := Scalar.muli v9 c1_i32_17
  let v27 : BitVec 32 := Scalar.addi c0_i32 v26
  v27.toNat
def k0_dev2 (d0 : Dev nD) : Nat :=
  let c0_i32_20 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.subi v3 c1_i32_5
  let c8_i32_6 : BitVec 32 := 8#32
  let v12 : BitVec 32 := Scalar.addi v11 c8_i32_6
  let c4_i32_7 : BitVec 32 := 4#32
  let v13 : BitVec 32 := Scalar.remsi v12 c4_i32_7
  let v14 : BitVec 32 := Scalar.addi v10 v13
  let c1_i32_19 : BitVec 32 := 1#32
  let v28 : BitVec 32 := Scalar.muli v14 c1_i32_19
  let v29 : BitVec 32 := Scalar.addi c0_i32_20 v28
  v29.toNat
def k0_dev3 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_8 : BitVec 32 := 1#32
  let v15 : BitVec 32 := Scalar.addi v4 c1_i32_8
  let c8_i32_9 : BitVec 32 := 8#32
  let v16 : BitVec 32 := Scalar.addi v15 c8_i32_9
  let c4_i32_10 : BitVec 32 := 4#32
  let v17 : BitVec 32 := Scalar.remsi v16 c4_i32_10
  let c4_i32_11 : BitVec 32 := 4#32
  let v18 : BitVec 32 := Scalar.muli v17 c4_i32_11
  let c4_i32 : BitVec 32 := 4#32
  let v3 : BitVec 32 := Scalar.remsi v2 c4_i32
  let v19 : BitVec 32 := Scalar.addi v18 v3
  let c1_i32_22 : BitVec 32 := 1#32
  let v30 : BitVec 32 := Scalar.muli v19 c1_i32_22
  let v31 : BitVec 32 := Scalar.addi c0_i32_23 v30
  v31.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_12 : BitVec 32 := 1#32
  let v20 : BitVec 32 := Scalar.subi v4 c1_i32_12
  let c8_i32_13 : BitVec 32 := 8#32
  let v21 : BitVec 32 := Scalar.addi v20 c8_i32_13
  let c4_i32_14 : BitVec 32 := 4#32
  let v22 : BitVec 32 := Scalar.remsi v21 c4_i32_14
  let c4_i32_15 : BitVec 32 := 4#32
  let v23 : BitVec 32 := Scalar.muli v22 c4_i32_15
  let c4_i32 : BitVec 32 := 4#32
  let v3 : BitVec 32 := Scalar.remsi v2 c4_i32
  let v24 : BitVec 32 := Scalar.addi v23 v3
  let c1_i32_25 : BitVec 32 := 1#32
  let v32 : BitVec 32 := Scalar.muli v24 c1_i32_25
  let v33 : BitVec 32 := Scalar.addi c0_i32_26 v32
  v33.toNat
def k0_off1 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_56 : BitVec 32 := 1#32
  let v125 : BitVec 32 := Scalar.subi v3 c1_i32_56
  let c8_i32_57 : BitVec 32 := 8#32
  let v126 : BitVec 32 := Scalar.addi v125 c8_i32_57
  let c4_i32_58 : BitVec 32 := 4#32
  let v127 : BitVec 32 := Scalar.remsi v126 c4_i32_58
  let v128 : BitVec 32 := Scalar.addi c0_i32_59 v127
  let c128_i32 : BitVec 32 := 128#32
  let v129 : BitVec 32 := Scalar.muli v128 c128_i32
  let v130 : Index := Scalar.indexCast v129
  let c0_60 : Index := 0#32
  ![v130.toNat, 0]
def k0_off2 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_56 : BitVec 32 := 1#32
  let v125 : BitVec 32 := Scalar.subi v3 c1_i32_56
  let c8_i32_57 : BitVec 32 := 8#32
  let v126 : BitVec 32 := Scalar.addi v125 c8_i32_57
  let c4_i32_58 : BitVec 32 := 4#32
  let v127 : BitVec 32 := Scalar.remsi v126 c4_i32_58
  let v128 : BitVec 32 := Scalar.addi c0_i32_59 v127
  let c128_i32 : BitVec 32 := 128#32
  let v129 : BitVec 32 := Scalar.muli v128 c128_i32
  let v133 : Index := Scalar.indexCast v129
  let c0_61 : Index := 0#32
  ![v133.toNat, 0]
def k0_off3 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_56 : BitVec 32 := 1#32
  let v125 : BitVec 32 := Scalar.subi v3 c1_i32_56
  let c8_i32_57 : BitVec 32 := 8#32
  let v126 : BitVec 32 := Scalar.addi v125 c8_i32_57
  let c4_i32_58 : BitVec 32 := 4#32
  let v127 : BitVec 32 := Scalar.remsi v126 c4_i32_58
  let v128 : BitVec 32 := Scalar.addi c0_i32_59 v127
  let c128_i32 : BitVec 32 := 128#32
  let v129 : BitVec 32 := Scalar.muli v128 c128_i32
  let v137 : Index := Scalar.indexCast v129
  let c1_62 : Index := 1#32
  ![v137.toNat, 1]
def k0_off4 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_56 : BitVec 32 := 1#32
  let v125 : BitVec 32 := Scalar.subi v3 c1_i32_56
  let c8_i32_57 : BitVec 32 := 8#32
  let v126 : BitVec 32 := Scalar.addi v125 c8_i32_57
  let c4_i32_58 : BitVec 32 := 4#32
  let v127 : BitVec 32 := Scalar.remsi v126 c4_i32_58
  let v128 : BitVec 32 := Scalar.addi c0_i32_59 v127
  let c128_i32 : BitVec 32 := 128#32
  let v129 : BitVec 32 := Scalar.muli v128 c128_i32
  let v141 : Index := Scalar.indexCast v129
  let c2_63 : Index := 2#32
  ![v141.toNat, 2]
def k0_off5 (d0 : Dev nD) (c0_i32_59 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c1_i32_56 : BitVec 32 := 1#32
  let v125 : BitVec 32 := Scalar.subi v3 c1_i32_56
  let c8_i32_57 : BitVec 32 := 8#32
  let v126 : BitVec 32 := Scalar.addi v125 c8_i32_57
  let c4_i32_58 : BitVec 32 := 4#32
  let v127 : BitVec 32 := Scalar.remsi v126 c4_i32_58
  let v128 : BitVec 32 := Scalar.addi c0_i32_59 v127
  let c128_i32 : BitVec 32 := 128#32
  let v129 : BitVec 32 := Scalar.muli v128 c128_i32
  let v145 : Index := Scalar.indexCast v129
  let c3_64 : Index := 3#32
  ![v145.toNat, 3]
def k0_dev5 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c8_i32 : BitVec 32 := 8#32
  let v7 : BitVec 32 := Scalar.addi v6 c8_i32
  let c4_i32_3 : BitVec 32 := 4#32
  let v8 : BitVec 32 := Scalar.remsi v7 c4_i32_3
  let v9 : BitVec 32 := Scalar.addi v5 v8
  let c1_i32_93 : BitVec 32 := 1#32
  let v225 : BitVec 32 := Scalar.muli v9 c1_i32_93
  let v226 : BitVec 32 := Scalar.addi c0_i32_94 v225
  v226.toNat
def k0_off6 (d0 : Dev nD) (c0_i32_100 : BitVec 32) (c1_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v231 : BitVec 32 := Scalar.addi v3 c1_i32_97
  let c8_i32_98 : BitVec 32 := 8#32
  let v232 : BitVec 32 := Scalar.addi v231 c8_i32_98
  let c4_i32_99 : BitVec 32 := 4#32
  let v233 : BitVec 32 := Scalar.remsi v232 c4_i32_99
  let v234 : BitVec 32 := Scalar.addi c0_i32_100 v233
  let c128_i32_101 : BitVec 32 := 128#32
  let v235 : BitVec 32 := Scalar.muli v234 c128_i32_101
  let v236 : Index := Scalar.indexCast v235
  let c0_102 : Index := 0#32
  ![v236.toNat, 0]
def k0_off7 (d0 : Dev nD) (c0_i32_100 : BitVec 32) (c1_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v231 : BitVec 32 := Scalar.addi v3 c1_i32_97
  let c8_i32_98 : BitVec 32 := 8#32
  let v232 : BitVec 32 := Scalar.addi v231 c8_i32_98
  let c4_i32_99 : BitVec 32 := 4#32
  let v233 : BitVec 32 := Scalar.remsi v232 c4_i32_99
  let v234 : BitVec 32 := Scalar.addi c0_i32_100 v233
  let c128_i32_101 : BitVec 32 := 128#32
  let v235 : BitVec 32 := Scalar.muli v234 c128_i32_101
  let v239 : Index := Scalar.indexCast v235
  let c0_103 : Index := 0#32
  ![v239.toNat, 0]
def k0_off8 (d0 : Dev nD) (c0_i32_100 : BitVec 32) (c1_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v231 : BitVec 32 := Scalar.addi v3 c1_i32_97
  let c8_i32_98 : BitVec 32 := 8#32
  let v232 : BitVec 32 := Scalar.addi v231 c8_i32_98
  let c4_i32_99 : BitVec 32 := 4#32
  let v233 : BitVec 32 := Scalar.remsi v232 c4_i32_99
  let v234 : BitVec 32 := Scalar.addi c0_i32_100 v233
  let c128_i32_101 : BitVec 32 := 128#32
  let v235 : BitVec 32 := Scalar.muli v234 c128_i32_101
  let v243 : Index := Scalar.indexCast v235
  let c1_104 : Index := 1#32
  ![v243.toNat, 1]
def k0_off9 (d0 : Dev nD) (c0_i32_100 : BitVec 32) (c1_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v231 : BitVec 32 := Scalar.addi v3 c1_i32_97
  let c8_i32_98 : BitVec 32 := 8#32
  let v232 : BitVec 32 := Scalar.addi v231 c8_i32_98
  let c4_i32_99 : BitVec 32 := 4#32
  let v233 : BitVec 32 := Scalar.remsi v232 c4_i32_99
  let v234 : BitVec 32 := Scalar.addi c0_i32_100 v233
  let c128_i32_101 : BitVec 32 := 128#32
  let v235 : BitVec 32 := Scalar.muli v234 c128_i32_101
  let v247 : Index := Scalar.indexCast v235
  let c2_105 : Index := 2#32
  ![v247.toNat, 2]
def k0_off10 (d0 : Dev nD) (c0_i32_100 : BitVec 32) (c1_i32_97 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v231 : BitVec 32 := Scalar.addi v3 c1_i32_97
  let c8_i32_98 : BitVec 32 := 8#32
  let v232 : BitVec 32 := Scalar.addi v231 c8_i32_98
  let c4_i32_99 : BitVec 32 := 4#32
  let v233 : BitVec 32 := Scalar.remsi v232 c4_i32_99
  let v234 : BitVec 32 := Scalar.addi c0_i32_100 v233
  let c128_i32_101 : BitVec 32 := 128#32
  let v235 : BitVec 32 := Scalar.muli v234 c128_i32_101
  let v251 : Index := Scalar.indexCast v235
  let c3_106 : Index := 3#32
  ![v251.toNat, 3]
def k0_dev6 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.subi v3 c1_i32_5
  let c8_i32_6 : BitVec 32 := 8#32
  let v12 : BitVec 32 := Scalar.addi v11 c8_i32_6
  let c4_i32_7 : BitVec 32 := 4#32
  let v13 : BitVec 32 := Scalar.remsi v12 c4_i32_7
  let v14 : BitVec 32 := Scalar.addi v10 v13
  let c1_i32_135 : BitVec 32 := 1#32
  let v331 : BitVec 32 := Scalar.muli v14 c1_i32_135
  let v332 : BitVec 32 := Scalar.addi c0_i32_136 v331
  v332.toNat
def k0_dev7 (d0 : Dev nD) : Nat :=
  let c0_i32_228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c8_i32 : BitVec 32 := 8#32
  let v7 : BitVec 32 := Scalar.addi v6 c8_i32
  let c4_i32_3 : BitVec 32 := 4#32
  let v8 : BitVec 32 := Scalar.remsi v7 c4_i32_3
  let v9 : BitVec 32 := Scalar.addi v5 v8
  let c1_i32_227 : BitVec 32 := 1#32
  let v545 : BitVec 32 := Scalar.muli v9 c1_i32_227
  let v546 : BitVec 32 := Scalar.addi c0_i32_228 v545
  v546.toNat
def k0_dev8 (d0 : Dev nD) : Nat :=
  let c0_i32_250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.subi v3 c1_i32_5
  let c8_i32_6 : BitVec 32 := 8#32
  let v12 : BitVec 32 := Scalar.addi v11 c8_i32_6
  let c4_i32_7 : BitVec 32 := 4#32
  let v13 : BitVec 32 := Scalar.remsi v12 c4_i32_7
  let v14 : BitVec 32 := Scalar.addi v10 v13
  let c1_i32_249 : BitVec 32 := 1#32
  let v567 : BitVec 32 := Scalar.muli v14 c1_i32_249
  let v568 : BitVec 32 := Scalar.addi c0_i32_250 v567
  v568.toNat
def k0_dev9 (d0 : Dev nD) : Nat :=
  let c0_i32_342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_1 : BitVec 32 := 4#32
  let v5 : BitVec 32 := Scalar.muli v4 c4_i32_1
  let c4_i32 : BitVec 32 := 4#32
  let v3 : BitVec 32 := Scalar.remsi v2 c4_i32
  let c1_i32_2 : BitVec 32 := 1#32
  let v6 : BitVec 32 := Scalar.addi v3 c1_i32_2
  let c8_i32 : BitVec 32 := 8#32
  let v7 : BitVec 32 := Scalar.addi v6 c8_i32
  let c4_i32_3 : BitVec 32 := 4#32
  let v8 : BitVec 32 := Scalar.remsi v7 c4_i32_3
  let v9 : BitVec 32 := Scalar.addi v5 v8
  let c1_i32_341 : BitVec 32 := 1#32
  let v781 : BitVec 32 := Scalar.muli v9 c1_i32_341
  let v782 : BitVec 32 := Scalar.addi c0_i32_342 v781
  v782.toNat
def k0_dev10 (d0 : Dev nD) : Nat :=
  let c0_i32_364 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c4_i32_4 : BitVec 32 := 4#32
  let v10 : BitVec 32 := Scalar.muli v4 c4_i32_4
  let c4_i32 : BitVec 32 := 4#32
  let v3 : BitVec 32 := Scalar.remsi v2 c4_i32
  let c1_i32_5 : BitVec 32 := 1#32
  let v11 : BitVec 32 := Scalar.subi v3 c1_i32_5
  let c8_i32_6 : BitVec 32 := 8#32
  let v12 : BitVec 32 := Scalar.addi v11 c8_i32_6
  let c4_i32_7 : BitVec 32 := 4#32
  let v13 : BitVec 32 := Scalar.remsi v12 c4_i32_7
  let v14 : BitVec 32 := Scalar.addi v10 v13
  let c1_i32_363 : BitVec 32 := 1#32
  let v803 : BitVec 32 := Scalar.muli v14 c1_i32_363
  let v804 : BitVec 32 := Scalar.addi c0_i32_364 v803
  v804.toNat
def k0_off11 (d0 : Dev nD) (c0_i32_367 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v809 : BitVec 32 := Scalar.addi c0_i32_367 v3
  let c128_i32_368 : BitVec 32 := 128#32
  let v810 : BitVec 32 := Scalar.muli v809 c128_i32_368
  let v811 : Index := Scalar.indexCast v810
  let c0_369 : Index := 0#32
  ![v811.toNat, 0]
def k0_off12 (d0 : Dev nD) (c0_i32_367 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v809 : BitVec 32 := Scalar.addi c0_i32_367 v3
  let c128_i32_368 : BitVec 32 := 128#32
  let v810 : BitVec 32 := Scalar.muli v809 c128_i32_368
  let v814 : Index := Scalar.indexCast v810
  let c0_370 : Index := 0#32
  ![v814.toNat, 0]
def k0_off13 (d0 : Dev nD) (c0_i32_367 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v809 : BitVec 32 := Scalar.addi c0_i32_367 v3
  let c128_i32_368 : BitVec 32 := 128#32
  let v810 : BitVec 32 := Scalar.muli v809 c128_i32_368
  let v818 : Index := Scalar.indexCast v810
  let c1_371 : Index := 1#32
  ![v818.toNat, 1]
def k0_off14 (d0 : Dev nD) (c0_i32_367 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v809 : BitVec 32 := Scalar.addi c0_i32_367 v3
  let c128_i32_368 : BitVec 32 := 128#32
  let v810 : BitVec 32 := Scalar.muli v809 c128_i32_368
  let v822 : Index := Scalar.indexCast v810
  let c2_372 : Index := 2#32
  ![v822.toNat, 2]
def k0_off15 (d0 : Dev nD) (c0_i32_367 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v809 : BitVec 32 := Scalar.addi c0_i32_367 v3
  let c128_i32_368 : BitVec 32 := 128#32
  let v810 : BitVec 32 := Scalar.muli v809 c128_i32_368
  let v826 : Index := Scalar.indexCast v810
  let c3_373 : Index := 3#32
  ![v826.toNat, 3]
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_453 : BitVec 32 := 1#32
  let v1021 : BitVec 32 := Scalar.subi v4 c1_i32_453
  let c8_i32_454 : BitVec 32 := 8#32
  let v1022 : BitVec 32 := Scalar.addi v1021 c8_i32_454
  let c4_i32_455 : BitVec 32 := 4#32
  let v1023 : BitVec 32 := Scalar.remsi v1022 c4_i32_455
  let c128_i32_456 : BitVec 32 := 128#32
  let v1024 : BitVec 32 := Scalar.muli v1023 c128_i32_456
  let v1025 : Index := Scalar.indexCast v1024
  let c0_457 : Index := 0#32
  ![v1025.toNat, 0]
def k0_dev11 (d0 : Dev nD) : Nat :=
  let c0_i32_463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_8 : BitVec 32 := 1#32
  let v15 : BitVec 32 := Scalar.addi v4 c1_i32_8
  let c8_i32_9 : BitVec 32 := 8#32
  let v16 : BitVec 32 := Scalar.addi v15 c8_i32_9
  let c4_i32_10 : BitVec 32 := 4#32
  let v17 : BitVec 32 := Scalar.remsi v16 c4_i32_10
  let c4_i32_11 : BitVec 32 := 4#32
  let v18 : BitVec 32 := Scalar.muli v17 c4_i32_11
  let c4_i32 : BitVec 32 := 4#32
  let v3 : BitVec 32 := Scalar.remsi v2 c4_i32
  let v19 : BitVec 32 := Scalar.addi v18 v3
  let c1_i32_462 : BitVec 32 := 1#32
  let v1031 : BitVec 32 := Scalar.muli v19 c1_i32_462
  let v1032 : BitVec 32 := Scalar.addi c0_i32_463 v1031
  v1032.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_466 : BitVec 32 := 1#32
  let v1037 : BitVec 32 := Scalar.addi v4 c1_i32_466
  let c8_i32_467 : BitVec 32 := 8#32
  let v1038 : BitVec 32 := Scalar.addi v1037 c8_i32_467
  let c4_i32_468 : BitVec 32 := 4#32
  let v1039 : BitVec 32 := Scalar.remsi v1038 c4_i32_468
  let c128_i32_469 : BitVec 32 := 128#32
  let v1040 : BitVec 32 := Scalar.muli v1039 c128_i32_469
  let v1041 : Index := Scalar.indexCast v1040
  let c0_470 : Index := 0#32
  ![v1041.toNat, 0]
def k0_dev12 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_12 : BitVec 32 := 1#32
  let v20 : BitVec 32 := Scalar.subi v4 c1_i32_12
  let c8_i32_13 : BitVec 32 := 8#32
  let v21 : BitVec 32 := Scalar.addi v20 c8_i32_13
  let c4_i32_14 : BitVec 32 := 4#32
  let v22 : BitVec 32 := Scalar.remsi v21 c4_i32_14
  let c4_i32_15 : BitVec 32 := 4#32
  let v23 : BitVec 32 := Scalar.muli v22 c4_i32_15
  let c4_i32 : BitVec 32 := 4#32
  let v3 : BitVec 32 := Scalar.remsi v2 c4_i32
  let v24 : BitVec 32 := Scalar.addi v23 v3
  let c1_i32_475 : BitVec 32 := 1#32
  let v1047 : BitVec 32 := Scalar.muli v24 c1_i32_475
  let v1048 : BitVec 32 := Scalar.addi c0_i32_476 v1047
  v1048.toNat
def k0_off18 (d0 : Dev nD) (c0_i32_489 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_488 : BitVec 32 := 2#32
  let v1062 : BitVec 32 := Scalar.subi v4 c2_i32_488
  let v1063 : BitVec 32 := Scalar.subi v1062 c0_i32_489
  let c8_i32_490 : BitVec 32 := 8#32
  let v1064 : BitVec 32 := Scalar.addi v1063 c8_i32_490
  let c4_i32_491 : BitVec 32 := 4#32
  let v1065 : BitVec 32 := Scalar.remsi v1064 c4_i32_491
  let c128_i32_492 : BitVec 32 := 128#32
  let v1066 : BitVec 32 := Scalar.muli v1065 c128_i32_492
  let v1067 : Index := Scalar.indexCast v1066
  let c0_493 : Index := 0#32
  ![v1067.toNat, 0]
def k0_dev13 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_8 : BitVec 32 := 1#32
  let v15 : BitVec 32 := Scalar.addi v4 c1_i32_8
  let c8_i32_9 : BitVec 32 := 8#32
  let v16 : BitVec 32 := Scalar.addi v15 c8_i32_9
  let c4_i32_10 : BitVec 32 := 4#32
  let v17 : BitVec 32 := Scalar.remsi v16 c4_i32_10
  let c4_i32_11 : BitVec 32 := 4#32
  let v18 : BitVec 32 := Scalar.muli v17 c4_i32_11
  let c4_i32 : BitVec 32 := 4#32
  let v3 : BitVec 32 := Scalar.remsi v2 c4_i32
  let v19 : BitVec 32 := Scalar.addi v18 v3
  let c1_i32_503 : BitVec 32 := 1#32
  let v1076 : BitVec 32 := Scalar.muli v19 c1_i32_503
  let v1077 : BitVec 32 := Scalar.addi c0_i32_504 v1076
  v1077.toNat
def k0_off19 (d0 : Dev nD) (c0_i32_517 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c2_i32_516 : BitVec 32 := 2#32
  let v1091 : BitVec 32 := Scalar.addi v4 c2_i32_516
  let v1092 : BitVec 32 := Scalar.addi v1091 c0_i32_517
  let c8_i32_518 : BitVec 32 := 8#32
  let v1093 : BitVec 32 := Scalar.addi v1092 c8_i32_518
  let c4_i32_519 : BitVec 32 := 4#32
  let v1094 : BitVec 32 := Scalar.remsi v1093 c4_i32_519
  let c128_i32_520 : BitVec 32 := 128#32
  let v1095 : BitVec 32 := Scalar.muli v1094 c128_i32_520
  let v1096 : Index := Scalar.indexCast v1095
  let c0_521 : Index := 0#32
  ![v1096.toNat, 0]
def k0_dev14 (d0 : Dev nD) : Nat :=
  let c0_i32_532 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_12 : BitVec 32 := 1#32
  let v20 : BitVec 32 := Scalar.subi v4 c1_i32_12
  let c8_i32_13 : BitVec 32 := 8#32
  let v21 : BitVec 32 := Scalar.addi v20 c8_i32_13
  let c4_i32_14 : BitVec 32 := 4#32
  let v22 : BitVec 32 := Scalar.remsi v21 c4_i32_14
  let c4_i32_15 : BitVec 32 := 4#32
  let v23 : BitVec 32 := Scalar.muli v22 c4_i32_15
  let c4_i32 : BitVec 32 := 4#32
  let v3 : BitVec 32 := Scalar.remsi v2 c4_i32
  let v24 : BitVec 32 := Scalar.addi v23 v3
  let c1_i32_531 : BitVec 32 := 1#32
  let v1105 : BitVec 32 := Scalar.muli v24 c1_i32_531
  let v1106 : BitVec 32 := Scalar.addi c0_i32_532 v1105
  v1106.toNat
def k0_dev15 (d0 : Dev nD) : Nat :=
  let c0_i32_560 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_8 : BitVec 32 := 1#32
  let v15 : BitVec 32 := Scalar.addi v4 c1_i32_8
  let c8_i32_9 : BitVec 32 := 8#32
  let v16 : BitVec 32 := Scalar.addi v15 c8_i32_9
  let c4_i32_10 : BitVec 32 := 4#32
  let v17 : BitVec 32 := Scalar.remsi v16 c4_i32_10
  let c4_i32_11 : BitVec 32 := 4#32
  let v18 : BitVec 32 := Scalar.muli v17 c4_i32_11
  let c4_i32 : BitVec 32 := 4#32
  let v3 : BitVec 32 := Scalar.remsi v2 c4_i32
  let v19 : BitVec 32 := Scalar.addi v18 v3
  let c1_i32_559 : BitVec 32 := 1#32
  let v1134 : BitVec 32 := Scalar.muli v19 c1_i32_559
  let v1135 : BitVec 32 := Scalar.addi c0_i32_560 v1134
  v1135.toNat
def k0_dev16 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_0 : BitVec 32 := 4#32
  let v4 : BitVec 32 := Scalar.divsi v2 c4_i32_0
  let c1_i32_12 : BitVec 32 := 1#32
  let v20 : BitVec 32 := Scalar.subi v4 c1_i32_12
  let c8_i32_13 : BitVec 32 := 8#32
  let v21 : BitVec 32 := Scalar.addi v20 c8_i32_13
  let c4_i32_14 : BitVec 32 := 4#32
  let v22 : BitVec 32 := Scalar.remsi v21 c4_i32_14
  let c4_i32_15 : BitVec 32 := 4#32
  let v23 : BitVec 32 := Scalar.muli v22 c4_i32_15
  let c4_i32 : BitVec 32 := 4#32
  let v3 : BitVec 32 := Scalar.remsi v2 c4_i32
  let v24 : BitVec 32 := Scalar.addi v23 v3
  let c1_i32_587 : BitVec 32 := 1#32
  let v1163 : BitVec 32 := Scalar.muli v24 c1_i32_587
  let v1164 : BitVec 32 := Scalar.addi c0_i32_588 v1163
  v1164.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S2048x512 : Shape := ⟨2, ![2048, 512]⟩
abbrev S512x64 : Shape := ⟨2, ![512, 64]⟩
abbrev S2048x2 : Shape := ⟨2, ![2048, 2]⟩
abbrev S64x512x1024 : Shape := ⟨3, ![64, 512, 1024]⟩
abbrev S2048x64 : Shape := ⟨2, ![2048, 64]⟩
abbrev S_ : Shape := ⟨0, ![]⟩
abbrev S2048 : Shape := ⟨1, ![2048]⟩
abbrev S2048x1 : Shape := ⟨2, ![2048, 1]⟩
abbrev S2048x1x1 : Shape := ⟨3, ![2048, 1, 1]⟩
abbrev S1 : Shape := ⟨1, ![1]⟩
abbrev S1x1x1 : Shape := ⟨3, ![1, 1, 1]⟩
abbrev S2048x512x1024 : Shape := ⟨3, ![2048, 512, 1024]⟩
abbrev S2048x1024 : Shape := ⟨2, ![2048, 1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x64, .f32⟩
  | .hbm, ⟨2, _⟩ => ⟨S2048x2, .i32⟩
  | .hbm, ⟨3, _⟩ => ⟨S64x512x1024, .f32⟩
  | .hbm, ⟨4, _⟩ => ⟨S2048x64, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S2048x64, .f32⟩
  | .hbm, ⟨9, _⟩ => ⟨S2048x64, .f32⟩
  | .hbm, ⟨10, _⟩ => ⟨S2048x64, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S2048x64, .f32⟩
  | .hbm, ⟨15, _⟩ => ⟨S2048x64, .f32⟩
  | .hbm, ⟨16, _⟩ => ⟨S2048x1, .i32⟩
  | .hbm, ⟨17, _⟩ => ⟨S2048, .i32⟩
  | .hbm, ⟨18, _⟩ => ⟨S2048x1, .i32⟩
  | .hbm, ⟨19, _⟩ => ⟨S2048, .i32⟩
  | .hbm, ⟨20, _⟩ => ⟨S2048x1, .i32⟩
  | .hbm, ⟨21, _⟩ => ⟨S_, .i32⟩
  | .hbm, ⟨22, _⟩ => ⟨S2048x1, .i32⟩
  | .hbm, ⟨23, _⟩ => ⟨S2048x1, .i1⟩
  | .hbm, ⟨24, _⟩ => ⟨S_, .i32⟩
  | .hbm, ⟨25, _⟩ => ⟨S2048x1, .i32⟩
  | .hbm, ⟨26, _⟩ => ⟨S2048x1, .i32⟩
  | .hbm, ⟨27, _⟩ => ⟨S2048x1, .i32⟩
  | .hbm, ⟨28, _⟩ => ⟨S2048x1x1, .i32⟩
  | .hbm, ⟨29, _⟩ => ⟨S1, .i32⟩
  | .hbm, ⟨30, _⟩ => ⟨S_, .i32⟩
  | .hbm, ⟨31, _⟩ => ⟨S2048x1x1, .i32⟩
  | .hbm, ⟨32, _⟩ => ⟨S2048x1x1, .i1⟩
  | .hbm, ⟨33, _⟩ => ⟨S1x1x1, .i32⟩
  | .hbm, ⟨34, _⟩ => ⟨S2048x1x1, .i32⟩
  | .hbm, ⟨35, _⟩ => ⟨S2048x1x1, .i1⟩
  | .hbm, ⟨36, _⟩ => ⟨S2048x1x1, .i1⟩
  | .hbm, ⟨37, _⟩ => ⟨S_, .i1⟩
  | .hbm, ⟨38, _⟩ => ⟨S2048x1, .i1⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S2048x1, .i32⟩
  | .hbm, ⟨44, _⟩ => ⟨S_, .i32⟩
  | .hbm, ⟨45, _⟩ => ⟨S2048x1, .i32⟩
  | .hbm, ⟨46, _⟩ => ⟨S2048x1, .i1⟩
  | .hbm, ⟨47, _⟩ => ⟨S_, .i32⟩
  | .hbm, ⟨48, _⟩ => ⟨S2048x1, .i32⟩
  | .hbm, ⟨49, _⟩ => ⟨S2048x1, .i32⟩
  | .hbm, ⟨50, _⟩ => ⟨S2048x1, .i32⟩
  | .hbm, ⟨51, _⟩ => ⟨S2048x1x1, .i32⟩
  | .hbm, ⟨52, _⟩ => ⟨S1, .i32⟩
  | .hbm, ⟨53, _⟩ => ⟨S_, .i32⟩
  | .hbm, ⟨54, _⟩ => ⟨S2048x1x1, .i32⟩
  | .hbm, ⟨55, _⟩ => ⟨S2048x1x1, .i1⟩
  | .hbm, ⟨56, _⟩ => ⟨S1x1x1, .i32⟩
  | .hbm, ⟨57, _⟩ => ⟨S2048x1x1, .i32⟩
  | .hbm, ⟨58, _⟩ => ⟨S2048x1x1, .i1⟩
  | .hbm, ⟨59, _⟩ => ⟨S2048x1x1, .i1⟩
  | .hbm, ⟨60, _⟩ => ⟨S_, .i1⟩
  | .hbm, ⟨61, _⟩ => ⟨S2048x1, .i1⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S_, .i32⟩
  | .hbm, ⟨68, _⟩ => ⟨S2048, .i32⟩
  | .hbm, ⟨69, _⟩ => ⟨S2048, .i1⟩
  | .hbm, ⟨70, _⟩ => ⟨S_, .i32⟩
  | .hbm, ⟨71, _⟩ => ⟨S2048, .i32⟩
  | .hbm, ⟨72, _⟩ => ⟨S2048, .i32⟩
  | .hbm, ⟨73, _⟩ => ⟨S2048, .i32⟩
  | .hbm, ⟨74, _⟩ => ⟨S2048x1, .i32⟩
  | .hbm, ⟨75, _⟩ => ⟨S2048x512x1024, .f32⟩
  | .hbm, ⟨76, _⟩ => ⟨S2048x1024, .f32⟩
  | .hbm, ⟨77, _⟩ => ⟨S_, .i32⟩
  | .hbm, ⟨78, _⟩ => ⟨S2048, .i32⟩
  | .hbm, ⟨79, _⟩ => ⟨S2048, .i1⟩
  | .hbm, ⟨80, _⟩ => ⟨S_, .i32⟩
  | .hbm, ⟨81, _⟩ => ⟨S2048, .i32⟩
  | .hbm, ⟨82, _⟩ => ⟨S2048, .i32⟩
  | .hbm, ⟨83, _⟩ => ⟨S2048, .i32⟩
  | .hbm, ⟨84, _⟩ => ⟨S2048x1, .i32⟩
  | .hbm, ⟨85, _⟩ => ⟨S2048x512x1024, .f32⟩
  | .hbm, ⟨86, _⟩ => ⟨S2048x1024, .f32⟩
  | .hbm, ⟨87, _⟩ => ⟨S2048x1, .f32⟩
  | .hbm, ⟨88, _⟩ => ⟨S2048x1024, .f32⟩
  | .hbm, ⟨89, _⟩ => ⟨S2048x1024, .f32⟩
  | .hbm, ⟨90, _⟩ => ⟨S2048x1, .f32⟩
  | .hbm, ⟨91, _⟩ => ⟨S2048x1024, .f32⟩
  | .hbm, ⟨92, _⟩ => ⟨S2048x1024, .f32⟩
  | .hbm, ⟨93, _⟩ => ⟨S2048x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_cst : Ref sig .tc := ⟨.hbm, 40, rfl⟩
abbrev main_call0_v14 : Ref sig .tc := ⟨.hbm, 41, rfl⟩
abbrev main_v15 : Ref sig .tc := ⟨.hbm, 42, rfl⟩
abbrev main_v16 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_cst : Ref sig .tc := ⟨.hbm, 63, rfl⟩
abbrev main_call1_v14 : Ref sig .tc := ⟨.hbm, 64, rfl⟩
abbrev main_v17 : Ref sig .tc := ⟨.hbm, 65, rfl⟩
abbrev main_v18 : Ref sig .tc := ⟨.hbm, 66, rfl⟩
abbrev main_c : Ref sig .tc := ⟨.hbm, 67, rfl⟩
abbrev main_v19 : Ref sig .tc := ⟨.hbm, 68, rfl⟩
abbrev main_v20 : Ref sig .tc := ⟨.hbm, 69, rfl⟩
abbrev main_c_1 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_c_2 : Ref sig .tc := ⟨.hbm, 77, rfl⟩
abbrev main_v27 : Ref sig .tc := ⟨.hbm, 78, rfl⟩
abbrev main_v28 : Ref sig .tc := ⟨.hbm, 79, rfl⟩
abbrev main_c_3 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩

abbrev nD : Nat := 1
abbrev τ : Topo := Topo.v7x

variable {F : FTy → Type} [FloatOps F]
-- ==== Proof.KernelIdeal.Values.lean ====
/-
What each device's buffers hold: the staged inputs, the gates, the partial products of a token group, what each ring
sends at each step, and the device's block of the result. Each is a function of the launch memory.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.VecWindow

@[expose] public section

set_option backward.proofsInPublic true

noncomputable section

namespace Cert.KernelIdeal.Moe

open Cert.KernelIdeal Cert.KernelIdeal.Gen
open Idealize.ShloMosaic Idealize.ShloMosaic.TcCoe

variable {F : FTy → Type} [FloatOps F]

/-! ## The torus: rings, neighbours -/

/-- The device one step along ring `ρ`: `0` the next column, `1` the previous one, `2` the next plane, `3` the previous one. -/
def nb (ρ : Fin 4) (c : Dev nD) : Dev nD := match ρ with
  | 0 => ⟨4 * (c.val / 4) + (c.val % 4 + 9) % 4, by have h : c.val < 16 := c.isLt; show _ < 16; omega⟩
  | 1 => ⟨4 * (c.val / 4) + (c.val % 4 + 7) % 4, by have h : c.val < 16 := c.isLt; show _ < 16; omega⟩
  | 2 => ⟨4 * ((c.val / 4 + 9) % 4) + c.val % 4, by have h : c.val < 16 := c.isLt; show _ < 16; omega⟩
  | 3 => ⟨4 * ((c.val / 4 + 7) % 4) + c.val % 4, by have h : c.val < 16 := c.isLt; show _ < 16; omega⟩

/-- The ring running the other way. -/
def opp : Fin 4 → Fin 4 := fun | 0 => 1 | 1 => 0 | 2 => 3 | 3 => 2

theorem opp_opp (ρ : Fin 4) : opp (opp ρ) = ρ := by revert ρ; decide
theorem nb_opp_nb (ρ : Fin 4) (c : Dev nD) : nb (opp ρ) (nb ρ c) = c := by revert ρ c; decide
theorem nb_nb_opp (ρ : Fin 4) (c : Dev nD) : nb ρ (nb (opp ρ) c) = c := by revert ρ c; decide

/-! ## The memrefs -/

abbrev xM : Memref sig .tc .vmem S2048x512 .f32 := Memref.whole cc0_stg0_0
abbrev rwM : Memref sig .tc .vmem S512x64 .f32 := Memref.whole cc0_stg1_0
abbrev idM : Memref sig .tc .vmem S2048x2 .i32 := Memref.whole cc0_stg2_0
abbrev ewM : Memref sig .tc .vmem S4x512x1024 .f32 := Memref.whole cc0_stg3_0
abbrev ouM : Memref sig .tc .vmem S128x1024 .f32 := Memref.whole cc0_stg4_0
abbrev gaM : Memref sig .tc .vmem S2048x4 .f32 := Memref.whole cc0_scratch0
abbrev apM : Memref sig .tc .vmem S512x512 .f32 := Memref.whole cc0_scratch1
abbrev amM : Memref sig .tc .vmem S512x512 .f32 := Memref.whole cc0_scratch2
abbrev s0M : Memref sig .tc .vmem S512x512 .bf16 := Memref.whole cc0_scratch3
abbrev s1M : Memref sig .tc .vmem S512x512 .bf16 := Memref.whole cc0_scratch4
abbrev s2M : Memref sig .tc .vmem S128x512 .bf16 := Memref.whole cc0_scratch5
abbrev s3M : Memref sig .tc .vmem S128x512 .bf16 := Memref.whole cc0_scratch6
abbrev l0M : Memref sig .tc .vmem S3x512x512 .bf16 := Memref.whole cc0_scratch7
abbrev l1M : Memref sig .tc .vmem S3x512x512 .bf16 := Memref.whole cc0_scratch8
abbrev l2M : Memref sig .tc .vmem S3x128x512 .bf16 := Memref.whole cc0_scratch9
abbrev l3M : Memref sig .tc .vmem S3x128x512 .bf16 := Memref.whole cc0_scratch10

/-! ## The staged inputs -/

variable (m : (ℓ : Loc nD τ sig) → Buf (Elt F) ℓ)

def xs (c : Dev nD) : Vec F S2048x512 .f32 := (win0_0.blk (0 : Fin 1)).view.read (Elt F) (m ((c : Thread nD τ).loc main_arg0))
def rws (c : Dev nD) : Vec F S512x64 .f32 := (win0_1.blk (0 : Fin 1)).view.read (Elt F) (m ((c : Thread nD τ).loc main_arg1))
def ids (c : Dev nD) : Vec F S2048x2 .i32 := (win0_2.blk (0 : Fin 1)).view.read (Elt F) (m ((c : Thread nD τ).loc main_arg2))
def ews (c : Dev nD) : Vec F S4x512x1024 .f32 := (win0_3.blk (0 : Fin 1)).view.read (Elt F) (m ((c : Thread nD τ).loc main_arg3))

/-! ## The gates -/

/-- Device `c`'s number as the kernel's word. -/
def devWord (c : Dev nD) : BitVec 32 := Scalar.remsi (Scalar.divsi (Dev.word c) 1#32) 16#32

/-- Column `j` of the routing indices. -/
def idCol (c : Dev nD) (j : Fin 2) : Vec F S2048x1 .i32 :=
  VecWindow.window (ids m c) ![0, j.val] S2048x1.size (by revert j; decide)

def e0 (c : Dev nD) : IVec S2048x1 32 := k0_pay2 (F := F) (idCol m c 0)
def e1 (c : Dev nD) : IVec S2048x1 32 := k0_pay3 (F := F) (idCol m c 1)
def g0 (c : Dev nD) : FVec F S2048x1 .f32 := k0_pay9 (xs m c) (rws m c) (idCol m c 0) (idCol m c 1)
def g1 (c : Dev nD) : FVec F S2048x1 .f32 := k0_pay10 (xs m c) (rws m c) (idCol m c 0) (idCol m c 1)

/-- The gate of device `c`'s expert `j`, for every token. -/
def gateCol (c : Dev nD) (j : Fin 4) : FVec F S2048x1 .f32 := match j with
  | 0 => k0_pay11 (devWord c) (e0 m c) (e1 m c) (g0 m c) (g1 m c)
  | 1 => k0_pay12 (devWord c) (e0 m c) (e1 m c) (g0 m c) (g1 m c)
  | 2 => k0_pay14 (k0_pay13 (devWord c) (e0 m c) (e1 m c) (g0 m c) (g1 m c))
  | 3 => k0_pay15 (devWord c) (e0 m c) (e1 m c) (g0 m c) (g1 m c)

/-- Row `p` of a column. -/
def colIdx (p : Fin 2048) : S2048x1.Idx := fun a => match a with | ⟨0, _⟩ => p | ⟨1, _⟩ => (0 : Fin 1)

/-- Column `j` of `f` replaced by `v`. -/
def setCol (f : Vec F S2048x4 .f32) (j : Fin 4) (v : Vec F S2048x1 .f32) : Vec F S2048x4 .f32 :=
  fun i => if (i 1).val = j.val then v (colIdx (i 0)) else f i

def gates (c : Dev nD) : Vec F S2048x4 .f32 := fun i => gateCol m c (i 1) (colIdx (i 0))

/-! ## A tile's scaled rows, a group's partial product -/

theorem rows_inb (t : Fin 16) : ∀ a, (![128 * t.val, 0] : Fin 2 → ℕ) a + S128x512.size a ≤ S2048x512.size a := by revert t; decide
theorem gcol_inb (t : Fin 16) (j : Fin 4) : ∀ a, (![128 * t.val, j.val] : Fin 2 → ℕ) a + S128x1.size a ≤ S2048x4.size a := by revert t j; decide
theorem chunk_inb (q : Fin 4) : ∀ a, (![128 * q.val, 0] : Fin 2 → ℕ) a + S128x512.size a ≤ S512x512.size a := by revert q; decide

/-- The 128 tokens of tile `t`. -/
def rows (x : Vec F S2048x512 .f32) (t : Fin 16) : Vec F S128x512 .f32 := VecWindow.window x ![128 * t.val, 0] S128x512.size (rows_inb t)
/-- Their gates of expert `j`. -/
def gcol (g : Vec F S2048x4 .f32) (t : Fin 16) (j : Fin 4) : Vec F S128x1 .f32 := VecWindow.window g ![128 * t.val, j.val] S128x1.size (gcol_inb t j)
/-- Tile `t`'s tokens scaled by each of the four gates, side by side. -/
def blk (x : Vec F S2048x512 .f32) (g : Vec F S2048x4 .f32) (t : Fin 16) : FVec F S128x2048 .f32 :=
  k0_pay16 (rows x t) (gcol g t 0) (gcol g t 1) (gcol g t 2) (gcol g t 3)

/-- Tile `r` of device `c`'s column shifted by `δ`. -/
def tile (c : Dev nD) (δ : ℕ) (r : Fin 4) : Fin 16 := ⟨4 * r.val + (c.val % 4 + δ) % 4, by have := r.isLt; omega⟩

/-- The left and right halves of the experts' output columns. -/
def ewHalf (c : Dev nD) (h : Fin 2) : Vec F S4x512x512 .f32 :=
  VecWindow.window (ews m c) ![0, 0, 512 * h.val] S4x512x512.size (by revert h; decide)

/-- Four tiles' scaled rows against the stacked experts. -/
def half (b : Fin 4 → FVec F S128x2048 .f32) (w : Vec F S4x512x512 .f32) : FVec F S512x512 .f32 :=
  matmul dot_S512x2048_S2048x512_S512x512_1_0_0_1_n_n none
    (concatenate S512x2048 0 [⟨S128x2048, b 0⟩, ⟨S128x2048, b 1⟩, ⟨S128x2048, b 2⟩, ⟨S128x2048, b 3⟩] concatenates_S128x2048_S128x2048_S128x2048_S128x2048_S512x2048_d0)
    (shapeCast S2048x512 (shapeCast S4x512x512 w shapeCasts_S4x512x512_S4x512x512) shapeCasts_S4x512x512_S2048x512)
    (constant S512x512 .f32 0x00000000#32)

/-- Device `c`'s experts' share of the outputs (columns `h`) of the tokens of the column shifted by `δ`. -/
def part (c : Dev nD) (δ : ℕ) (h : Fin 2) : FVec F S512x512 .f32 :=
  half (fun r => blk (xs m c) (gates m c) (tile c δ r)) (ewHalf m c h)

/-! ## The sends -/

def lowA (a : FVec F S512x512 .f32) : FVec F S512x512 .bf16 :=
  shapeCast S512x512 (truncf .bf16 a bitsLt_bf16_f32) shapeCasts_S512x512_S512x512
def lowB (a : FVec F S128x512 .f32) : FVec F S128x512 .bf16 := k0_pay72 a
/-- What came along the ring, widened, and the device's own share. -/
def addA (b : FVec F S512x512 .bf16) (a : FVec F S512x512 .f32) : FVec F S512x512 .f32 := addf (extf .f32 b bitsLt_bf16_f32) a
def addB (b : FVec F S128x512 .bf16) (a : FVec F S128x512 .f32) : FVec F S128x512 .f32 := addf (extf .f32 b bitsLt_bf16_f32) a

/-- How far from its own column the tokens are whose sums ring `ρ` of a plane carries away at step `s`; the last stay. -/
def dA (ρ : Fin 4) : ℕ → ℕ := match ρ with
  | 0 => fun | 0 => 7 | 1 => 10 | 2 => 9 | _ => 0
  | _ => fun | 0 => 9 | 1 => 10 | 2 => 7 | _ => 0
/-- The half of the outputs' columns ring `ρ` carries. -/
def hA (ρ : Fin 4) : Fin 2 := match ρ with | 0 => 0 | _ => 1
/-- What device `c` sends at step `s` along ring `ρ` of its plane. -/
def sA (ρ : Fin 4) : ℕ → Dev nD → FVec F S512x512 .bf16
  | 0, c => lowA (part m c (dA ρ 0) (hA ρ))
  | s + 1, c => lowA (addA (sA ρ s (nb (opp ρ) c)) (part m c (dA ρ (s + 1)) (hA ρ)))
/-- Device `c`'s plane's sum of its own column's tokens, in the half ring `ρ` carries. -/
def accA (ρ : Fin 4) (c : Dev nD) : FVec F S512x512 .f32 :=
  shapeCast S512x512 (addA (sA m ρ 2 (nb (opp ρ) c)) (part m c (dA ρ 3) (hA ρ))) shapeCasts_S512x512_S512x512

/-- The chunk `q` of 128 rows. -/
def chunk (a : Vec F S512x512 .f32) (q : Fin 4) : Vec F S128x512 .f32 := VecWindow.window a ![128 * q.val, 0] S128x512.size (chunk_inb q)
/-- Device `c`'s plane shifted by `δ`. -/
def zq (c : Dev nD) (δ : ℕ) : Fin 4 := ⟨(c.val / 4 + δ) % 4, Nat.mod_lt _ (by decide)⟩
/-- How far from its own plane the tokens are whose sums ring `ρ` carries away across the planes at step `s`; the last stay. -/
def dB (ρ : Fin 4) : ℕ → ℕ := match ρ with
  | 2 => fun | 0 => 7 | 1 => 6 | 2 => 5 | _ => 4
  | _ => fun | 0 => 9 | 1 => 10 | 2 => 11 | _ => 12
/-- The plane's ring carrying the half ring `ρ` carries across the planes. -/
def low (ρ : Fin 4) : Fin 4 := match ρ with | 2 => 0 | _ => 1
/-- What device `c` sends at step `s` along ring `ρ` across the planes. -/
def sB (ρ : Fin 4) : ℕ → Dev nD → FVec F S128x512 .bf16
  | 0, c => lowB (chunk (accA m (low ρ) c) (zq c (dB ρ 0)))
  | s + 1, c => lowB (addB (sB ρ s (nb (opp ρ) c)) (chunk (accA m (low ρ) c) (zq c (dB ρ (s + 1)))))
/-- The half of device `c`'s result ring `ρ` ends with. -/
def outH (ρ : Fin 4) (c : Dev nD) : FVec F S128x512 .f32 :=
  addB (sB m ρ 2 (nb (opp ρ) c)) (chunk (accA m (low ρ) c) (zq c (dB ρ 3)))
/-- A column of the result within its half. -/
def outIdx (i : S128x1024.Idx) : S128x512.Idx := fun a => match a with
  | ⟨0, _⟩ => i 0
  | ⟨1, _⟩ => (⟨(i 1).val % 512, Nat.mod_lt _ (by decide)⟩ : Fin 512)
/-- Device `c`'s block of the result. -/
def outAt (c : Dev nD) : Vec F S128x1024 .f32 := fun i => outH m (if (i 1).val < 512 then 2 else 3) c (outIdx i)

end Cert.KernelIdeal.Moe

end
-- ==== Proof.KernelIdeal.Protocol.lean ====
/-
How the devices meet: the cells they signal and wait on, what each credit hands over, what a device owes, and the four
kinds of step — greeting a neighbour, sending along a ring, taking what landed, taking a staging buffer back.
-/
module

public import proofs.«01_k».proof.Proof.KernelIdeal.Values

@[expose] public section

set_option backward.proofsInPublic true

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The landing slots -/

/-- Slot `s` of a landing buffer within the plane, -/
def slA (M : Memref sig .tc .vmem S3x512x512 .bf16) (s : Fin 3) : Memref sig .tc .vmem S512x512 .bf16 := match s with
  | 0 => (M.slice (Rect.unit (s := S3x512x512) ![0, 0, 0] S1x512x512.size inb_S3x512x512_S1x512x512_0_0_0) (fun _ => rfl)).squeeze S512x512 squeezes_S1x512x512_S512x512
  | 1 => (M.slice (Rect.unit (s := S3x512x512) ![1, 0, 0] S1x512x512.size inb_S3x512x512_S1x512x512_1_0_0) (fun _ => rfl)).squeeze S512x512 squeezes_S1x512x512_S512x512
  | 2 => (M.slice (Rect.unit (s := S3x512x512) ![2, 0, 0] S1x512x512.size inb_S3x512x512_S1x512x512_2_0_0) (fun _ => rfl)).squeeze S512x512 squeezes_S1x512x512_S512x512
/-- and of one across the planes. -/
def slB (M : Memref sig .tc .vmem S3x128x512 .bf16) (s : Fin 3) : Memref sig .tc .vmem S128x512 .bf16 := match s with
  | 0 => (M.slice (Rect.unit (s := S3x128x512) ![0, 0, 0] S1x128x512.size inb_S3x128x512_S1x128x512_0_0_0) (fun _ => rfl)).squeeze S128x512 squeezes_S1x128x512_S128x512
  | 1 => (M.slice (Rect.unit (s := S3x128x512) ![1, 0, 0] S1x128x512.size inb_S3x128x512_S1x128x512_1_0_0) (fun _ => rfl)).squeeze S128x512 squeezes_S1x128x512_S128x512
  | 2 => (M.slice (Rect.unit (s := S3x128x512) ![2, 0, 0] S1x128x512.size inb_S3x128x512_S1x128x512_2_0_0) (fun _ => rfl)).squeeze S128x512 squeezes_S1x128x512_S128x512

def anyOf (c : Dev nD) {sh : Shape} (M : Memref sig .tc .vmem sh .bf16) : sProp 𝕄 :=
  iprop(∃ f, M.view.loc (c : Thread nD τ) ↦[M.view.set]{fullShare} f)

omit [FloatOps F] in
instance anyOf_storable (c : Dev nD) {sh : Shape} (M : Memref sig .tc .vmem sh .bf16) : BI.Storable (upEmb : UEmb _ 𝕄) (anyOf (F := F) c M) := by
  unfold anyOf; infer_instance

/-- Slot `s` of ring `ρ`'s landing buffer on device `c`, whatever it holds. -/
def slotAny (ρ : Fin 4) (s : Fin 3) (c : Dev nD) : sProp 𝕄 := match ρ with
  | 0 => anyOf c (slA l0M s)
  | 1 => anyOf c (slA l1M s)
  | 2 => anyOf c (slB l2M s)
  | 3 => anyOf c (slB l3M s)

variable (m : (ℓ : Loc nD τ sig) → Buf (Elt F) ℓ)

/-- The same slot, holding what the neighbour before sent at step `s`. -/
def rcvPay (ρ : Fin 4) (s : Fin 3) (c : Dev nD) : sProp 𝕄 := match ρ with
  | 0 => owns (c : Thread nD τ) (slA l0M s) fullShare (sA m 0 s (nb (opp 0) c))
  | 1 => owns (c : Thread nD τ) (slA l1M s) fullShare (sA m 1 s (nb (opp 1) c))
  | 2 => owns (c : Thread nD τ) (slB l2M s) fullShare (sB m 2 s (nb (opp 2) c))
  | 3 => owns (c : Thread nD τ) (slB l3M s) fullShare (sB m 3 s (nb (opp 3) c))

/-- Ring `ρ`'s staging buffer on device `c`, holding what it sends at step `s`. -/
def sndPay (ρ : Fin 4) (s : ℕ) (c : Dev nD) : sProp 𝕄 := match ρ with
  | 0 => (s0M.view.loc (c : Thread nD τ) ↦{fullShare} (sA m 0 s c))
  | 1 => (s1M.view.loc (c : Thread nD τ) ↦{fullShare} (sA m 1 s c))
  | 2 => (s2M.view.loc (c : Thread nD τ) ↦{fullShare} (sB m 2 s c))
  | 3 => (s3M.view.loc (c : Thread nD τ) ↦{fullShare} (sB m 3 s c))

/-- The three slots of ring `ρ` on device `c`. -/
def slots (ρ : Fin 4) (c : Dev nD) : sProp 𝕄 := iprop(slotAny ρ 0 c ∗ slotAny ρ 1 c ∗ slotAny ρ 2 c)

omit [FloatOps F] in
instance slotAny_storable (ρ : Fin 4) (s : Fin 3) (c : Dev nD) : BI.Storable (upEmb : UEmb _ 𝕄) (slotAny (F := F) ρ s c) := by
  unfold slotAny; split <;> infer_instance
omit [FloatOps F] in
instance slots_storable (ρ : Fin 4) (c : Dev nD) : BI.Storable (upEmb : UEmb _ 𝕄) (slots (F := F) ρ c) := by unfold slots; infer_instance
instance rcvPay_storable (ρ : Fin 4) (s : Fin 3) (c : Dev nD) : BI.Storable (upEmb : UEmb _ 𝕄) (rcvPay m ρ s c) := by
  unfold rcvPay; split <;> infer_instance
instance sndPay_storable (ρ : Fin 4) (s : ℕ) (c : Dev nD) : BI.Storable (upEmb : UEmb _ 𝕄) (sndPay m ρ s c) := by
  unfold sndPay; split <;> infer_instance

/-! ## The cells -/

/-- A device's cells: the runtime's barrier, a send cell per ring, a receive cell per ring and step. -/
inductive Cell where
  | bar
  | snd (ρ : Fin 4)
  | rcv (ρ : Fin 4) (s : Fin 3)
  deriving DecidableEq

/-- All seventeen. -/
def cellList : List Cell :=
  [.bar, .snd 0, .snd 1, .snd 2, .snd 3, .rcv 0 0, .rcv 0 1, .rcv 0 2, .rcv 1 0, .rcv 1 1, .rcv 1 2,
   .rcv 2 0, .rcv 2 1, .rcv 2 2, .rcv 3 0, .rcv 3 1, .rcv 3 2]
theorem mem_cellList : ∀ x : Cell, x ∈ cellList
  | .bar => by decide
  | .snd ρ => by revert ρ; decide
  | .rcv ρ s => by revert ρ s; decide
instance : Fintype Cell := ⟨⟨cellList, by decide⟩, mem_cellList⟩

abbrev barS : Sem sig := (SemArray.scalar (sig.barrier 0 rfl) : Sems sig S_).sem

def csem : Cell → SemLoc sig
  | .bar => .reg barS
  | .snd ρ => .dma (⟨5 + ρ.val, by have := ρ.isLt; show _ < 21; omega⟩ : Fin 21)
  | .rcv ρ s => .dma (⟨9 + 3 * ρ.val + s.val, by have := ρ.isLt; have := s.isLt; show _ < 21; omega⟩ : Fin 21)

/-- Which cell a semaphore is, if it is one of ours. -/
def kind : SemLoc sig → Option Cell
  | .reg q => if q = barS then some .bar else none
  | .dma q =>
    if 9 ≤ q.val then some (.rcv ⟨(q.val - 9) / 3 % 4, Nat.mod_lt _ (by decide)⟩ ⟨(q.val - 9) % 3, Nat.mod_lt _ (by decide)⟩)
    else if 5 ≤ q.val then some (.snd ⟨(q.val - 5) % 4, Nat.mod_lt _ (by decide)⟩) else none

theorem kind_csem : ∀ x : Cell, kind (csem x) = some x := by decide

abbrev cell (c : Dev nD) (x : Cell) : GSem nD τ sig := ((c : Thread nD τ), csem x)

/-- The credit of a transfer along ring `ρ`. -/
def amt (ρ : Fin 4) : ℕ := match ρ with
  | 0 => (s0M).view.dmaCredit | 1 => (s1M).view.dmaCredit | 2 => (s2M).view.dmaCredit | 3 => (s3M).view.dmaCredit
theorem amt_pos (ρ : Fin 4) : 0 < amt ρ := by
  unfold amt; split <;> exact View.dmaCredit_pos _ (by decide)

/-! ## The schedule -/

def dutC : Cell → ℕ → Finset (Fin 4)
  | .bar, r => if r = 0 then Finset.univ else ∅
  | .snd _, r => if r < 3 then {0} else ∅
  | .rcv _ _, r => if r = 0 then {0} else ∅
def amtC : Cell → ℕ
  | .bar => 1
  | .snd ρ => amt ρ
  | .rcv ρ _ => amt ρ
def payC (c : Dev nD) : Cell → ℕ → Fin 4 → sProp 𝕄
  | .bar, _, d => slots d (nb d c)
  | .snd ρ, r, _ => sndPay m ρ r c
  | .rcv ρ s, _, _ => rcvPay m ρ s c

theorem amtC_pos (x : Cell) : 0 < amtC x := by
  cases x
  · exact Nat.one_pos
  · exact amt_pos _
  · exact amt_pos _

/-- The rounds. A barrier cell has one round of four units, one from each neighbour, each with that neighbour's landing
    slots; a send cell three rounds, its staging buffer back each time; a receive cell one, the slot filled. -/
def Rd : Rounds.Schedule (GSem nD τ sig) (Fin 4) 𝕄 where
  duties g r := if g.1.2 = .tc then (kind g.2).elim ∅ (fun x => dutC x r) else ∅
  unitless _ := False
  amount g _ _ := (kind g.2).elim 1 amtC
  payload g r d := (kind g.2).elim iprop(emp) (fun x => payC m g.1.1 x r d)
  amount_pos g _ _ _ := by
    cases h : kind g.2
    · exact Nat.one_pos
    · exact amtC_pos _

instance payC_storable (c : Dev nD) (x : Cell) (r : ℕ) (d : Fin 4) : BI.Storable (upEmb : UEmb _ 𝕄) (payC m c x r d) := by
  unfold payC; split <;> infer_instance
instance Rd_payload_storable (g : GSem nD τ sig) (r : ℕ) (d : Fin 4) : BI.Storable (upEmb : UEmb _ 𝕄) ((Rd m).payload g r d) := by
  show BI.Storable upEmb ((kind g.2).elim iprop(emp) (fun x => payC m g.1.1 x r d))
  cases kind g.2 <;> · dsimp only [Option.elim]; infer_instance

theorem duties_cell (c : Dev nD) (x : Cell) (r : ℕ) : (Rd m).duties (cell c x) r = dutC x r := by
  dsimp only [Rd]; rw [if_pos rfl, kind_csem]; rfl
theorem amount_cell (c : Dev nD) (x : Cell) (r : ℕ) (d : Fin 4) : (Rd m).amount (cell c x) r d = amtC x := by
  dsimp only [Rd]; rw [kind_csem]; rfl
theorem payload_cell (c : Dev nD) (x : Cell) (r : ℕ) (d : Fin 4) : (Rd m).payload (cell c x) r d = payC m c x r d := by
  dsimp only [Rd]; rw [kind_csem]; rfl
theorem duties_later (c : Dev nD) (x : Cell) : ∀ r, 3 ≤ r → (Rd m).duties (cell c x) r = ∅ := fun r hr => by
  rw [duties_cell]
  cases x
  · exact if_neg (by omega)
  · exact if_neg (by omega)
  · exact if_neg (by omega)
theorem duties_later_one (c : Dev nD) (x : Cell) (hx : ∀ r, 1 ≤ r → dutC x r = ∅) : ∀ r, 1 ≤ r → (Rd m).duties (cell c x) r = ∅ :=
  fun r hr => by rw [duties_cell]; exact hx r hr

theorem expect_of_one (c : Dev nD) (x : Cell) (r : ℕ) (h : dutC x r = {0}) : (Rd m).expect (cell c x) r = amtC x := by
  unfold Schedule.expect Schedule.amountOf; rw [duties_cell, h, Finset.sum_singleton, amount_cell]
theorem expect_bar (c : Dev nD) : (Rd m).expect (cell c .bar) 0 = 4 := by
  unfold Schedule.expect Schedule.amountOf
  rw [duties_cell, show dutC .bar 0 = Finset.univ from rfl, Finset.sum_congr rfl fun d _ => amount_cell m c .bar 0 d]
  rfl
theorem rest_of_one (c : Dev nD) (x : Cell) (r : ℕ) (h : dutC x r = {0}) :
    bigSep ((Rd m).duties (cell c x) r \ ∅) (fun d => (Rd m).payload (cell c x) r d) = payC m c x r 0 := by
  rw [Finset.sdiff_empty, duties_cell, h, bigSep_singleton, payload_cell]
theorem rest_bar (c : Dev nD) :
    bigSep ((Rd m).duties (cell c .bar) 0 \ ∅) (fun d => (Rd m).payload (cell c .bar) 0 d)
      = iprop(slots 0 (nb 0 c) ∗ slots 1 (nb 1 c) ∗ slots 2 (nb 2 c) ∗ slots 3 (nb 3 c)) := by
  rw [Finset.sdiff_empty, duties_cell, show dutC .bar 0 = Finset.univ from rfl, bigSep_univ_eq_bigSepL [0, 1, 2, 3] (by decide) (by decide)]
  simp only [payload_cell]
  rfl

/-! ## What a device owes, in program order; the levels -/

/-- The credits a device raises on its neighbours' cells, in order: the cell and the ring along which the neighbour lies. -/
def sched : List (Cell × Fin 4) :=
  [(.bar, 0), (.bar, 1), (.bar, 2), (.bar, 3),
   (.rcv 0 0, 0), (.rcv 1 0, 1), (.rcv 0 1, 0), (.rcv 1 1, 1), (.rcv 0 2, 0), (.rcv 1 2, 1),
   (.rcv 2 0, 2), (.rcv 3 0, 3), (.rcv 2 1, 2), (.rcv 3 1, 3), (.rcv 2 2, 2), (.rcv 3 2, 3)]

def owedL (c : Dev nD) (l : List (Cell × Fin 4)) : CellTallies nD τ sig Unit :=
  l.foldr (fun e acc => acc + tallyAt (cell (nb e.2 c) e.1) () (amtC e.1)) 0

/-- Device `c` with its first `i` credits raised. -/
def owing (i : ℕ) (c : Dev nD) : sProp 𝕄 := iprop(∃ W, owes (c : Thread nD τ) (owedL c (sched.drop i)) W)

def L (g : GSem nD τ sig) : Finset Unit := if g.1.2 = .tc then {()} else ∅
def levC : Cell → ℕ
  | .bar => 1
  | .snd _ => 0
  | .rcv ρ s => match ρ with
    | 0 => 2 + 2 * s.val | 1 => 3 + 2 * s.val | 2 => 8 + 2 * s.val | 3 => 9 + 2 * s.val
def lv (g : GSem nD τ sig) (_ : Unit) : ℕ := (kind g.2).elim 0 levC

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (x : Cell) : lv (cell c x) () = levC x := by unfold lv; rw [kind_csem]; rfl

theorem owedL_pos {c : Dev nD} {g : GSem nD τ sig} {u : Unit} : ∀ l : List (Cell × Fin 4), 0 < owedL c l g u → ∃ e ∈ l, g = cell (nb e.2 c) e.1
  | [], h => absurd h (Nat.lt_irrefl 0)
  | e :: l, h => by
    have h : 0 < (owedL c l + tallyAt (cell (nb e.2 c) e.1) () (amtC e.1)) g u := h
    rw [Pi.add_apply, Finsupp.add_apply, tallyAt_apply] at h
    by_cases hg : g = cell (nb e.2 c) e.1 ∧ u = ()
    · exact ⟨e, List.mem_cons_self, hg.1⟩
    · rw [if_neg hg, Nat.add_zero] at h
      obtain ⟨e', he, hg'⟩ := owedL_pos l h
      exact ⟨e', List.mem_cons_of_mem _ he, hg'⟩

/-- A wait on a semaphore below every cell still owed. -/
theorem mayWait_of (c : Dev nD) (sm : SemLoc sig) (l : List (Cell × Fin 4)) (hl : ∀ e ∈ l, lv ((c : Thread nD τ), sm) () < levC e.1) :
    (levAts L lv : sProp 𝕄) ⊢ MayWait (c : Thread nD τ) sm () (owedL c l) :=
  MayOwe.of_cut (L := L) (lev := lv) (lv ((c : Thread nD τ), sm) ())
    (fun p hp => by rw [Finset.mem_singleton.mp hp, L_tc]; exact Finset.mem_singleton_self _)
    (fun g u hg => by obtain ⟨e, -, rfl⟩ := owedL_pos l hg; rw [L_tc]; exact Finset.mem_singleton_self _)
    (fun p hp => by rw [Finset.mem_singleton.mp hp])
    (fun g u hg => by obtain ⟨e, he, rfl⟩ := owedL_pos l hg; rw [show lv (cell (nb e.2 c) e.1) u = levC e.1 from lv_cell _ _]; exact hl e he)

/-! ## The facts every device keeps, and the tokens of a step -/

variable (K : Dev nD × Cell → ℕ)

abbrev kcell (ck : Dev nD × Cell) : GSem nD τ sig := cell ck.1 ck.2

/-- Every cell's invariant, that its round `0` is reached, and the levels. -/
def records : sProp 𝕄 :=
  iprop((bigSep Finset.univ fun ck : Dev nD × Cell => cellInv ER (Rd m) (K ck) (kcell ck))
    ∗ (bigSep Finset.univ fun ck : Dev nD × Cell => reached ER (kcell ck) 0) ∗ levAts L lv)

instance records_persistent : BI.Persistent (records m K) := by unfold records; infer_instance

theorem inv_at (c : Dev nD) (x : Cell) : records m K ⊢ cellInv ER (Rd m) (K (c, x)) (cell c x) :=
  sep_elim_left.trans (bigSep_elim (Φ := fun ck : Dev nD × Cell => (cellInv ER (Rd m) (K ck) (kcell ck) : sProp 𝕄)) (Finset.mem_univ (c, x)))
theorem reached_at (c : Dev nD) (x : Cell) : records m K ⊢ reached ER (cell c x) 0 :=
  (sep_elim_right.trans sep_elim_left).trans (bigSep_elim (Φ := fun ck : Dev nD × Cell => (reached ER (kcell ck) 0 : sProp 𝕄)) (Finset.mem_univ (c, x)))
theorem lev_at : records m K ⊢ levAts L lv := by
  unfold records
  iintro ⟨-, -, H⟩
  iexact H

/-- The tokens of step `s` of ring `ρ`. -/
def stepTok (ρ : Fin 4) (s : Fin 3) (c : Dev nD) : sProp 𝕄 :=
  iprop(dutyTok ER (cell c (.snd ρ)) s.val 0 ∗ dutyTok ER (cell (nb ρ c) (.rcv ρ s)) 0 0)
/-- The send cell of ring `ρ` before its step `r`. -/
def sat (ρ : Fin 4) (r : ℕ) (c : Dev nD) : sProp 𝕄 := iprop(atPos ER (cell c (.snd ρ)) r ∅ 0 ∗ reached ER (cell c (.snd ρ)) r)
/-- The send cell of ring `ρ` while its step `r` is under way. -/
def flying (ρ : Fin 4) (r : ℕ) (c : Dev nD) : sProp 𝕄 :=
  iprop(atPos ER (cell c (.snd ρ)) r ∅ 0 ∗ cred (tallyAt (cell c (.snd ρ)) () (amt ρ)))
/-- The receive cell of step `s` before and after. -/
def rin (ρ : Fin 4) (s : Fin 3) (c : Dev nD) : sProp 𝕄 :=
  iprop(atPos ER (cell c (.rcv ρ s)) 0 ∅ 0 ∗ cred (tallyAt (cell c (.rcv ρ s)) () (amt ρ)))
def rdone (ρ : Fin 4) (s : Fin 3) (c : Dev nD) : sProp 𝕄 := atPos ER (cell c (.rcv ρ s)) 1 ∅ 0

/-! ## The steps -/

section Steps
variable {α : Type} (c : Dev nD)

set_option maxRecDepth 8000 in
theorem mayWait_cell (x : Cell) (i : ℕ) (hw : ∀ e ∈ sched.drop i, levC x < levC e.1) :
    records m K ⊢ MayWait (c : Thread nD τ) (csem x) () (owedL c (sched.drop i)) := by
  have h : ∀ e ∈ sched.drop i, lv ((c : Thread nD τ), csem x) () < levC e.1 := by
    intro e he
    rw [lv_cell c x]
    exact hw e he
  iintro HR
  iapply (mayWait_of (F := F) c (csem x) (sched.drop i) h)
  iapply (lev_at m K)
  iexact HR

theorem dut_rcv (ρ : Fin 4) (s : Fin 3) : dutC (.rcv ρ s) 0 = {0} := rfl
theorem dut_snd (ρ : Fin 4) (r : ℕ) (h : r < 3) : dutC (.snd ρ) r = {0} := if_pos h

/-- Sending along ring `ρ` at its step `s`, into the neighbour's slot `s`. -/
theorem send_step {sh : Shape} (ρ : Fin 4) (s : Fin 3) (r i i' : ℕ) (hr' : r = s.val) (hi : i' = i + 1) (n : Dev nD) (hn : n = nb ρ c)
    (src dst : Memref sig .tc .vmem sh .bf16) (sS rS : DmaSem sig)
    {hsc : (dst : Memref sig (Dev.tc n : Thread nD τ).2.kind .vmem sh .bf16).view.ref.isScScratch = false} {hsrc : src.view.WordExact}
    {hdst : (dst : Memref sig (Dev.tc n : Thread nD τ).2.kind .vmem sh .bf16).view.WordExact}
    {hsem : DmaTarget.Typed .vmem (.dma rS) (.remote (Dev.tc n : Thread nD τ) dst (.dma sS) hsc)}
    (Y : (c' : Dev nD) → Buf (Elt F) (src.view.loc (c' : Thread nD τ)))
    (hS : csem (.snd ρ) = .dma sS) (hR : csem (.rcv ρ s) = .dma rS) (hset : src.view.set = Finset.univ)
    (hs : ∀ c', sndPay m ρ s c' = (src.view.loc (c' : Thread nD τ) ↦{fullShare} (Y c')))
    (ha : slotAny (F := F) ρ s (nb ρ c) = anyOf (nb ρ c) dst)
    (hr : rcvPay m ρ s (nb ρ c) = owns (nb ρ c : Thread nD τ) dst fullShare (src.view.read (Elt F) (Y (nb (opp ρ) (nb ρ c)))))
    (hamt : dst.view.dmaCredit = amt ρ)
    (ho : sched.drop i = (.rcv ρ s, ρ) :: sched.drop (i + 1))
    {k : PUnit → Prog (TpuEff nD τ sig (Elt F) Λ₀ .tc) α} {Q : α → sProp 𝕄} :
    records m K ⊢ owing (F := F) i c -∗ (src.view.loc (c : Thread nD τ) ↦{fullShare} (Y c)) -∗ stepTok (F := F) ρ s c -∗ slotAny (F := F) ρ s (nb ρ c) -∗ sat (F := F) ρ r c
      -∗ (owing (F := F) i' c -∗ flying (F := F) ρ r c -∗ wp frame (wpE (defs₀ (F := F)) 𝒱₀ (c : Thread nD τ) none) Set.univ (k ⟨⟩) Q)
      -∗ wp frame (wpE (defs₀ (F := F)) 𝒱₀ (c : Thread nD τ) none) Set.univ (.op (.enqueueDma src (.remote (Dev.tc n : Thread nD τ) dst (.dma sS) hsc) (.dma rS) hsrc hdst hsem) k) Q := by
  subst hn hr' hi
  unfold owing stepTok sat flying
  rw [ha, ho]
  unfold anyOf
  iintro #HR ⟨%W, HO⟩ Hs ⟨Hd1, Hd2⟩ ⟨%fd, Hd⟩ ⟨Hat, Hre⟩ Hk
  iapply (Rounds.wp_send_pointsTo 𝒱₀ ER (Rd m) (c : Thread nD τ) none (κ₁ := K (c, .snd ρ)) (κ₂ := K (nb ρ c, .rcv ρ s))
    (r₁ := s.val) (r₂ := 0) (d₁ := 0) (d₂ := 0) (fd := fd) (fs := Y c) (sem := .dma rS) (sS := .dma sS)
    (by rw [← hS, duties_cell, dut_snd ρ _ s.isLt]; exact Finset.mem_singleton_self _)
    (by rw [← hR, duties_cell, dut_rcv]; exact Finset.mem_singleton_self _)
    () () (amt ρ) (show dst.view.amount (.dma rS) = amt ρ from hamt) ((congrArg (fun g => (Rd m).amount ((c : Thread nD τ), g) s.val 0) hS.symm).trans (amount_cell m c (.snd ρ) _ _)) ((congrArg (fun g => (Rd m).amount ((nb ρ c : Thread nD τ), g) 0 0) hR.symm).trans (amount_cell m (nb ρ c) (.rcv ρ s) _ _))
    (owedL c (sched.drop (i + 1))) (by rw [← hR]) (W := W)
    (by rw [← hS, payload_cell, hset]; show _ ⊢ sndPay m ρ s.val c; rw [hs])
    (by
      rw [← hR, payload_cell]
      show _ ⊢ rcvPay m ρ s (nb ρ c)
      rw [hr, nb_opp_nb]
      unfold owns
      iintro H
      iexists (dst.view.write (Elt F) fd (src.view.read (Elt F) (Y c)) Finset.univ)
      isplitr
      · ipureintro; exact View.read_write_univ _ _
      iexact H)) $$ [Hs Hd1 Hd2 Hd Hre HO]
  · rw [hset, ← hS, ← hR]
    isplitr; · iapply (inv_at m K c (.snd ρ)); iexact HR
    isplitr; · iapply (inv_at m K (nb ρ c) (.rcv ρ s)); iexact HR
    isplitl [Hs]; · iexact Hs
    isplitl [Hd]; · iexact Hd
    isplitl [HO]; · iexact HO
    isplitl [Hd1]; · iexact Hd1
    isplitl [Hre]; · iexact Hre
    isplitl [Hd2]; · iexact Hd2
    iapply (reached_at m K (nb ρ c) (.rcv ρ s)); iexact HR
  rw [← hS]
  iintro ⟨Hc, HO⟩
  iapply Hk $$ [HO] [Hat Hc]
  · iexists W; iexact HO
  · isplitl [Hat] <;> iassumption

/-- Waiting until the staging buffer of ring `ρ`'s step `s` is free again. -/
theorem wait_sent {sp sp' : Space} {sh : Shape} {e e' : EltTy} (ρ : Fin 4) (s : Fin 3) (r r' i : ℕ) (hr : r = s.val) (hr' : r' = s.val + 1) (sS : DmaSem sig)
    (src : Memref sig .tc sp sh e) (dst : Memref sig .tc sp' sh e')
    (hS : csem (.snd ρ) = .dma sS) (hamt : dst.view.dmaCredit = amt ρ) (hw : ∀ e ∈ sched.drop i, levC (.snd ρ) < levC e.1)
    {P : sProp 𝕄} (hP : sndPay m ρ r c = P)
    {hsrc : src.view.WordExact} {hdst : dst.view.WordExact} {k : PUnit → Prog (TpuEff nD τ sig (Elt F) Λ₀ .tc) α} {Q : α → sProp 𝕄} :
    records m K ⊢ owing (F := F) i c -∗ flying (F := F) ρ r c
      -∗ (owing (F := F) i c -∗ sat (F := F) ρ r' c -∗ P -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 sS src dst hsrc hdst : TpuEff nD τ sig (Elt F) Λ₀ .tc PUnit) k) Q := by
  subst hr hr' hP
  unfold owing sat flying
  iintro #HR ⟨%W, HO⟩ ⟨Hat, Hc⟩ Hk
  iapply (Rounds.wp_wait_rest_token 𝒱₀ ER (Rd m) (c : Thread nD τ) none (κ := K (c, .snd ρ)) (sm := .dma sS) (k' := dst.view.dmaCredit)
    (wpE_waitDma2_eq 𝒱₀ (c : Thread nD τ) none Set.univ) (Set.mem_univ _) () (O := owedL c (sched.drop i)) (W := W) (R := s.val) (m := 0) (T := ∅)
    (by rw [← hS, Nat.zero_add, expect_of_one m c _ _ (dut_snd ρ _ s.isLt), hamt]; rfl)) $$ [HO Hat Hc]
  · rw [← hS, hamt]
    isplitr; · iapply (inv_at m K c (.snd ρ)); iexact HR
    isplitl [Hc]; · iexact Hc
    isplitl [HO]; · iexact HO
    isplitr
    · iapply (mayWait_cell m K c (.snd ρ) i hw); iexact HR
    iexact Hat
  rw [← hS, rest_of_one m c _ _ (dut_snd ρ _ s.isLt), show payC m c (.snd ρ) s.val 0 = sndPay m ρ s.val c from rfl]
  iintro ⟨HO, Hat, Hre, Hpay⟩
  iapply Hk $$ [HO] [Hat Hre] [Hpay]
  · iexists _; iexact HO
  · isplitl [Hat] <;> iassumption
  · iexact Hpay

/-- Waiting until the slot of ring `ρ`'s step `s` is filled. -/
theorem wait_landed {sp sp' : Space} {sh : Shape} {e e' : EltTy} (ρ : Fin 4) (s : Fin 3) (i : ℕ) (rS : DmaSem sig)
    (src : Memref sig .tc sp sh e) (dst : Memref sig .tc sp' sh e')
    (hR : csem (.rcv ρ s) = .dma rS) (hamt : dst.view.dmaCredit = amt ρ) (hw : ∀ e ∈ sched.drop i, levC (.rcv ρ s) < levC e.1)
    {hsrc : src.view.WordExact} {hdst : dst.view.WordExact} {k : PUnit → Prog (TpuEff nD τ sig (Elt F) Λ₀ .tc) α} {Q : α → sProp 𝕄} :
    records m K ⊢ owing (F := F) i c -∗ rin (F := F) ρ s c
      -∗ (owing (F := F) i c -∗ rdone (F := F) ρ s c -∗ rcvPay m ρ s c -∗ wp frame (wpE (defs₀ (F := F)) 𝒱₀ (c : Thread nD τ) none) Set.univ (k ⟨⟩) Q)
      -∗ wp frame (wpE (defs₀ (F := F)) 𝒱₀ (c : Thread nD τ) none) Set.univ (.op (.waitDma2 rS src dst hsrc hdst : TpuEff nD τ sig (Elt F) Λ₀ .tc PUnit) k) Q := by
  unfold owing rin rdone
  iintro #HR ⟨%W, HO⟩ ⟨Hat, Hc⟩ Hk
  iapply (Rounds.wp_wait_rest_token 𝒱₀ ER (Rd m) (c : Thread nD τ) none (κ := K (c, .rcv ρ s)) (sm := .dma rS) (k' := dst.view.dmaCredit)
    (wpE_waitDma2_eq 𝒱₀ (c : Thread nD τ) none Set.univ) (Set.mem_univ _) () (O := owedL c (sched.drop i)) (W := W) (R := 0) (m := 0) (T := ∅)
    (by rw [← hR, Nat.zero_add, expect_of_one m c _ _ (dut_rcv ρ s), hamt]; rfl)) $$ [HO Hat Hc]
  · rw [← hR, hamt]
    isplitr; · iapply (inv_at m K c (.rcv ρ s)); iexact HR
    isplitl [Hc]; · iexact Hc
    isplitl [HO]; · iexact HO
    isplitr
    · iapply (mayWait_cell m K c (.rcv ρ s) i hw); iexact HR
    iexact Hat
  rw [← hR, rest_of_one m c _ _ (dut_rcv ρ s), show payC m c (.rcv ρ s) 0 0 = rcvPay m ρ s c from rfl]
  iintro ⟨HO, Hat, -, Hpay⟩
  iapply Hk $$ [HO] [Hat] [Hpay]
  · iexists _; iexact HO
  · iexact Hat
  · iexact Hpay

theorem payload_bar (ρ : Fin 4) : (Rd m).payload (cell (nb ρ c) .bar) 0 (opp ρ) = slots (opp ρ) c := by
  rw [payload_cell]; show slots (opp ρ) (nb (opp ρ) (nb ρ c)) = _; rw [nb_opp_nb]

/-- Greeting the neighbour along ring `ρ`, our landing slots of the ring running the other way with the unit. -/
theorem greet (ρ : Fin 4) (n : Dev nD) (hn : n = nb ρ c) (q : Sem sig) (hq : csem .bar = .reg q) (k' : ℕ) (hk' : k' = 1)
    (i : ℕ) (ho : sched.drop i = (.bar, ρ) :: sched.drop (i + 1))
    {k : PUnit → Prog (TpuEff nD τ sig (Elt F) Λ₀ .tc) α} {Q : α → sProp 𝕄} :
    records m K ⊢ owing (F := F) i c -∗ dutyTok ER (cell (nb ρ c) .bar) 0 (opp ρ) -∗ slots (F := F) (opp ρ) c
      -∗ (owing (F := F) (i + 1) c -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (Dev.tc n : Thread nD τ) q k') k) Q := by
  subst hn hk'
  unfold owing
  rw [ho]
  iintro #HR ⟨%W, HO⟩ Ht Hsl Hk
  iapply (Rounds.wp_signal 𝒱₀ ER (Rd m) (c : Thread nD τ) none (dst := (nb ρ c : Thread nD τ)) (sem := q) (κ := K (nb ρ c, .bar)) (r := 0)
      (d := opp ρ) (by rw [← hq, duties_cell]; exact Finset.mem_univ _)
      ((congrArg (fun g => (Rd m).amount ((nb ρ c : Thread nD τ), g) 0 (opp ρ)) hq.symm).trans (amount_cell m (nb ρ c) .bar _ _)) () (owedL c (sched.drop (i + 1))) (by rw [← hq]) (W := W))
    $$ [HO Ht Hsl]
  · rw [← hq, payload_bar]
    isplitr; · iapply (inv_at m K (nb ρ c) .bar); iexact HR
    isplitl [HO]; · iexact HO
    isplitl [Ht]; · iexact Ht
    isplitl [Hsl]; · iexact Hsl
    iapply (reached_at m K (nb ρ c) .bar); iexact HR
  iintro HO
  iapply Hk
  iexists W; iexact HO

/-- Waiting for the four neighbours' greetings: their landing slots come with them. -/
theorem greeted (q : Sem sig) (hq : csem .bar = .reg q) (k' : ℕ) (hk' : k' = 4) (i : ℕ) (hw : ∀ e ∈ sched.drop i, levC .bar < levC e.1)
    {k : PUnit → Prog (TpuEff nD τ sig (Elt F) Λ₀ .tc) α} {Q : α → sProp 𝕄} :
    records m K ⊢ owing (F := F) i c -∗ atPos ER (cell c .bar) 0 ∅ 0 -∗ cred (tallyAt (cell c .bar) () 4)
      -∗ (owing (F := F) i c -∗ atPos ER (cell c .bar) 1 ∅ 0
          -∗ (slots (F := F) 0 (nb 0 c) ∗ slots (F := F) 1 (nb 1 c) ∗ slots (F := F) 2 (nb 2 c) ∗ slots (F := F) 3 (nb 3 c)) -∗ wp frame (wpE (defs₀ (F := F)) 𝒱₀ (c : Thread nD τ) none) Set.univ (k ⟨⟩) Q)
      -∗ wp frame (wpE (defs₀ (F := F)) 𝒱₀ (c : Thread nD τ) none) Set.univ (.op (.semWait q k') k) Q := by
  subst hk'
  unfold owing
  iintro #HR ⟨%W, HO⟩ Hat Hc Hk
  iapply (Rounds.wp_wait_rest_token 𝒱₀ ER (Rd m) (c : Thread nD τ) none (κ := K (c, .bar)) (sm := .reg q) (k' := 4)
    (wpE_semWait_eq 𝒱₀ (c : Thread nD τ) none Set.univ) (Set.mem_univ _) () (O := owedL c (sched.drop i)) (W := W) (R := 0) (m := 0) (T := ∅)
    (by rw [← hq, Nat.zero_add]; exact (expect_bar m c).symm)) $$ [HO Hat Hc]
  · rw [← hq]
    isplitr; · iapply (inv_at m K c .bar); iexact HR
    isplitl [Hc]; · iexact Hc
    isplitl [HO]; · iexact HO
    isplitr
    · iapply (mayWait_cell m K c .bar i hw); iexact HR
    iexact Hat
  rw [← hq, rest_bar]
  iintro ⟨HO, Hat, -, Hpay⟩
  iapply Hk $$ [HO] [Hat] [Hpay]
  · iexists _; iexact HO
  · iexact Hat
  · iexact Hpay

end Steps

end Cert.KernelIdeal.Moe

end
-- ==== Proof.KernelIdeal.Reads.lean ====
/-
What the kernel's loads and stores come to: a tile's rows, the gates, the halves of the experts, a whole buffer
rewritten, and a landing slot.
-/
module

public import proofs.«01_k».proof.Proof.KernelIdeal.Protocol

@[expose] public section

set_option backward.proofsInPublic true

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's buffers -/

/-- A part of the kernel's body at the kernel's buffers. -/
abbrev onBufs.{u} {β : Type u} (f : (arg0 : Memref sig .tc .vmem S2048x512 .f32) → (harg0 : arg0.IsWhole) → (arg1 : Memref sig .tc .vmem S512x64 .f32) → (harg1 : arg1.IsWhole) → (arg2 : Memref sig .tc .vmem S2048x2 .i32) → (harg2 : arg2.IsWhole) → (arg3 : Memref sig .tc .vmem S4x512x1024 .f32) → (harg3 : arg3.IsWhole) → (arg4 : Memref sig .tc .vmem S128x1024 .f32) → (harg4 : arg4.IsWhole) → (arg5 : Memref sig .tc .vmem S2048x4 .f32) → (harg5 : arg5.IsWhole) → (arg6 : Memref sig .tc .vmem S512x512 .f32) → (harg6 : arg6.IsWhole) → (arg7 : Memref sig .tc .vmem S512x512 .f32) → (harg7 : arg7.IsWhole) → (arg8 : Memref sig .tc .vmem S512x512 .bf16) → (harg8 : arg8.IsWhole) → (arg9 : Memref sig .tc .vmem S512x512 .bf16) → (harg9 : arg9.IsWhole) → (arg10 : Memref sig .tc .vmem S128x512 .bf16) → (harg10 : arg10.IsWhole) → (arg11 : Memref sig .tc .vmem S128x512 .bf16) → (harg11 : arg11.IsWhole) → (arg12 : Memref sig .tc .vmem S3x512x512 .bf16) → (harg12 : arg12.IsWhole) → (arg13 : Memref sig .tc .vmem S3x512x512 .bf16) → (harg13 : arg13.IsWhole) → (arg14 : Memref sig .tc .vmem S3x128x512 .bf16) → (harg14 : arg14.IsWhole) → (arg15 : Memref sig .tc .vmem S3x128x512 .bf16) → (harg15 : arg15.IsWhole) → (arg16 : DmaSems sig S_) → (arg17 : DmaSems sig S_) → (arg18 : DmaSems sig S_) → (arg19 : DmaSems sig S_) → (arg20 : DmaSems sig S3) → (arg21 : DmaSems sig S3) → (arg22 : DmaSems sig S3) → (arg23 : DmaSems sig S3) → β) : β :=
  f (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)
    cc0_scratch11 cc0_scratch12 cc0_scratch13 cc0_scratch14 cc0_scratch15 cc0_scratch16 cc0_scratch17 cc0_scratch18

/-! ## Loads -/

theorem vec2 {a a' b b' : ℕ} (h : a = a') (h' : b = b') : (![a, b] : Fin 2 → ℕ) = ![a', b'] := by subst h h'; rfl

theorem rows_read (x : Vec F S2048x512 .f32) (t : Fin 16) (off : Fin 2 → ℕ) (h : off = ![128 * t.val, 0]) (inb) :
    xM.view.readAt (Elt F) (Rect.unit (s := S2048x512) off S128x512.size inb).toLoadRect x = rows x t := by
  subst h
  exact View.readAt_unit _ _ _ rfl (rows_inb t)

theorem gcol_read (g : Vec F S2048x4 .f32) (t : Fin 16) (j : Fin 4) (off : Fin 2 → ℕ) (h : off = ![128 * t.val, j.val]) (inb) :
    gaM.view.readAt (Elt F) (Rect.unit (s := S2048x4) off S128x1.size inb).toLoadRect g = gcol g t j := by
  subst h
  exact View.readAt_unit _ _ _ rfl (gcol_inb t j)

/-- The scaled rows of tile `r` of the column before. -/
theorem blkA (x : Vec F S2048x512 .f32) (g : Vec F S2048x4 .f32) (c : Dev nD) (r : Fin 4) (w : BitVec 32) (hw : w = BitVec.ofNat 32 (4 * r.val)) (i0 i1 i2 i3 i4) :
    k0_pay16 (xM.view.readAt (Elt F) (Rect.unit (s := S2048x512) (k0_off1 c w) S128x512.size i0).toLoadRect x)
      (gaM.view.readAt (Elt F) (Rect.unit (s := S2048x4) (k0_off2 c w) S128x1.size i1).toLoadRect g)
      (gaM.view.readAt (Elt F) (Rect.unit (s := S2048x4) (k0_off3 c w) S128x1.size i2).toLoadRect g)
      (gaM.view.readAt (Elt F) (Rect.unit (s := S2048x4) (k0_off4 c w) S128x1.size i3).toLoadRect g)
      (gaM.view.readAt (Elt F) (Rect.unit (s := S2048x4) (k0_off5 c w) S128x1.size i4).toLoadRect g) = blk x g (tile c 7 r) := by
  subst_vars
  unfold blk
  rw [rows_read x (tile c 7 r) _ ((k0_off1_eq c r).trans (vec2 (by show _ = 128 * (4 * r.val + (c.val % 4 + 7) % 4); omega) rfl)), gcol_read g (tile c 7 r) 0 _ ((k0_off2_eq c r).trans (vec2 (by show _ = 128 * (4 * r.val + (c.val % 4 + 7) % 4); omega) rfl)), gcol_read g (tile c 7 r) 1 _ ((k0_off3_eq c r).trans (vec2 (by show _ = 128 * (4 * r.val + (c.val % 4 + 7) % 4); omega) rfl)), gcol_read g (tile c 7 r) 2 _ ((k0_off4_eq c r).trans (vec2 (by show _ = 128 * (4 * r.val + (c.val % 4 + 7) % 4); omega) rfl)), gcol_read g (tile c 7 r) 3 _ ((k0_off5_eq c r).trans (vec2 (by show _ = 128 * (4 * r.val + (c.val % 4 + 7) % 4); omega) rfl))]

/-- Those of the column one or two after. -/
theorem blkB (x : Vec F S2048x512 .f32) (g : Vec F S2048x4 .f32) (c : Dev nD) (r : Fin 4) (r' : Fin 2) (w w' : BitVec 32) (hw : w = BitVec.ofNat 32 (4 * r.val)) (hw' : w' = BitVec.ofNat 32 (1 + r'.val)) (i0 i1 i2 i3 i4) :
    k0_pay16 (xM.view.readAt (Elt F) (Rect.unit (s := S2048x512) (k0_off6 c w w') S128x512.size i0).toLoadRect x)
      (gaM.view.readAt (Elt F) (Rect.unit (s := S2048x4) (k0_off7 c w w') S128x1.size i1).toLoadRect g)
      (gaM.view.readAt (Elt F) (Rect.unit (s := S2048x4) (k0_off8 c w w') S128x1.size i2).toLoadRect g)
      (gaM.view.readAt (Elt F) (Rect.unit (s := S2048x4) (k0_off9 c w w') S128x1.size i3).toLoadRect g)
      (gaM.view.readAt (Elt F) (Rect.unit (s := S2048x4) (k0_off10 c w w') S128x1.size i4).toLoadRect g) = blk x g (tile c (9 + r'.val) r) := by
  subst_vars
  unfold blk
  rw [rows_read x (tile c (9 + r'.val) r) _ ((k0_off6_eq c r r').trans (vec2 (by show _ = 128 * (4 * r.val + (c.val % 4 + (9 + r'.val)) % 4); omega) rfl)), gcol_read g (tile c (9 + r'.val) r) 0 _ ((k0_off7_eq c r r').trans (vec2 (by show _ = 128 * (4 * r.val + (c.val % 4 + (9 + r'.val)) % 4); omega) rfl)), gcol_read g (tile c (9 + r'.val) r) 1 _ ((k0_off8_eq c r r').trans (vec2 (by show _ = 128 * (4 * r.val + (c.val % 4 + (9 + r'.val)) % 4); omega) rfl)), gcol_read g (tile c (9 + r'.val) r) 2 _ ((k0_off9_eq c r r').trans (vec2 (by show _ = 128 * (4 * r.val + (c.val % 4 + (9 + r'.val)) % 4); omega) rfl)), gcol_read g (tile c (9 + r'.val) r) 3 _ ((k0_off10_eq c r r').trans (vec2 (by show _ = 128 * (4 * r.val + (c.val % 4 + (9 + r'.val)) % 4); omega) rfl))]

/-- Those of the device's own column. -/
theorem blkC (x : Vec F S2048x512 .f32) (g : Vec F S2048x4 .f32) (c : Dev nD) (r : Fin 4) (w : BitVec 32) (hw : w = BitVec.ofNat 32 (4 * r.val)) (i0 i1 i2 i3 i4) :
    k0_pay16 (xM.view.readAt (Elt F) (Rect.unit (s := S2048x512) (k0_off11 c w) S128x512.size i0).toLoadRect x)
      (gaM.view.readAt (Elt F) (Rect.unit (s := S2048x4) (k0_off12 c w) S128x1.size i1).toLoadRect g)
      (gaM.view.readAt (Elt F) (Rect.unit (s := S2048x4) (k0_off13 c w) S128x1.size i2).toLoadRect g)
      (gaM.view.readAt (Elt F) (Rect.unit (s := S2048x4) (k0_off14 c w) S128x1.size i3).toLoadRect g)
      (gaM.view.readAt (Elt F) (Rect.unit (s := S2048x4) (k0_off15 c w) S128x1.size i4).toLoadRect g) = blk x g (tile c 0 r) := by
  subst_vars
  unfold blk
  rw [rows_read x (tile c 0 r) _ ((k0_off11_eq c r).trans (vec2 (by show _ = 128 * (4 * r.val + (c.val % 4 + 0) % 4); omega) rfl)), gcol_read g (tile c 0 r) 0 _ ((k0_off12_eq c r).trans (vec2 (by show _ = 128 * (4 * r.val + (c.val % 4 + 0) % 4); omega) rfl)), gcol_read g (tile c 0 r) 1 _ ((k0_off13_eq c r).trans (vec2 (by show _ = 128 * (4 * r.val + (c.val % 4 + 0) % 4); omega) rfl)), gcol_read g (tile c 0 r) 2 _ ((k0_off14_eq c r).trans (vec2 (by show _ = 128 * (4 * r.val + (c.val % 4 + 0) % 4); omega) rfl)), gcol_read g (tile c 0 r) 3 _ ((k0_off15_eq c r).trans (vec2 (by show _ = 128 * (4 * r.val + (c.val % 4 + 0) % 4); omega) rfl))]

variable (m : (ℓ : Loc nD τ sig) → Buf (Elt F) ℓ) (K : Dev nD × Cell → ℕ)

theorem ew_read (c : Dev nD) (h : Fin 2) (off : Fin 3 → ℕ) (ho : off = ![0, 0, 512 * h.val]) (inb) :
    ewM.view.readAt (Elt F) (Rect.unit (s := S4x512x1024) off S4x512x512.size inb).toLoadRect (ews m c) = ewHalf m c h := by
  subst ho
  exact View.readAt_unit _ _ _ rfl _

/-- The four tiles' scaled rows given one by one. -/
def half4 (b0 b1 b2 b3 : FVec F S128x2048 .f32) (w : Vec F S4x512x512 .f32) : FVec F S512x512 .f32 :=
  half (fun r => match r with | 0 => b0 | 1 => b1 | 2 => b2 | 3 => b3) w

theorem half4_part (c : Dev nD) (δ : ℕ) (h : Fin 2) {b0 b1 b2 b3 : FVec F S128x2048 .f32} {w : Vec F S4x512x512 .f32}
    (h0 : b0 = blk (xs m c) (gates m c) (tile c δ 0)) (h1 : b1 = blk (xs m c) (gates m c) (tile c δ 1))
    (h2 : b2 = blk (xs m c) (gates m c) (tile c δ 2)) (h3 : b3 = blk (xs m c) (gates m c) (tile c δ 3)) (hw : w = ewHalf m c h) :
    half4 b0 b1 b2 b3 w = part m c δ h := by
  subst h0 h1 h2 h3 hw
  rfl

theorem gates_at (c : Dev nD) (i : S2048x4.Idx) (j : Fin 4) (h : (i 1).val = j.val) : gates m c i = gateCol m c j (colIdx (i 0)) := by
  unfold gates
  rw [show (i 1 : Fin 4) = j from Fin.ext h]

theorem id_read (c : Dev nD) (j : Fin 2) (off : Fin 2 → ℕ) (ho : off = ![0, j.val]) (inb) :
    idM.view.readAt (Elt F) (Rect.unit (s := S2048x2) off S2048x1.size inb).toLoadRect (ids m c) = idCol m c j := by
  subst ho
  exact View.readAt_unit _ _ _ rfl _

theorem zero2 : (![0, 0] : Fin 2 → ℕ) = fun _ => 0 := funext fun a => by revert a; decide

theorem x_read (c : Dev nD) (inb) : xM.view.readAt (Elt F) (Rect.unit (s := S2048x512) ![0, 0] S2048x512.size inb).toLoadRect (xs m c) = xs m c :=
  Memref.readAt_unit_zero _ _ zero2 _ _

theorem rw_read (c : Dev nD) (inb) : rwM.view.readAt (Elt F) (Rect.unit (s := S512x64) ![0, 0] S512x64.size inb).toLoadRect (rws m c) = rws m c :=
  Memref.readAt_unit_zero _ _ zero2 _ _

/-! ## Stores -/

/-- Four columns stored one after another. -/
theorem cols_stored {κ sp} (v : View sig κ sp S2048x4 .f32) (f : v.ty.Contents (Elt F)) (v0 v1 v2 v3 : Vec F S2048x1 .f32) (g : Vec F S2048x4 .f32)
    (h0 : ∀ i, (i 1).val = 0 → g i = v0 (colIdx (i 0))) (h1 : ∀ i, (i 1).val = 1 → g i = v1 (colIdx (i 0)))
    (h2 : ∀ i, (i 1).val = 2 → g i = v2 (colIdx (i 0))) (h3 : ∀ i, (i 1).val = 3 → g i = v3 (colIdx (i 0))) :
    v.read (Elt F) (v.writes (Elt F) f
      [⟨Rect.unit (s := S2048x4) ![0, 3] S2048x1.size inb_S2048x4_S2048x1_0_3, v3⟩, ⟨Rect.unit (s := S2048x4) ![0, 2] S2048x1.size inb_S2048x4_S2048x1_0_2, v2⟩,
       ⟨Rect.unit (s := S2048x4) ![0, 1] S2048x1.size inb_S2048x4_S2048x1_0_1, v1⟩, ⟨Rect.unit (s := S2048x4) ![0, 0] S2048x1.size inb_S2048x4_S2048x1_0_0, v0⟩]) = g := by
  funext i
  have hin : ∀ j : Fin 4, (i 1).val = j.val → ∀ a : Fin 2, (i a).val = (![0, j.val] : Fin 2 → ℕ) a + (colIdx (i 0) a).val := by
    intro j hj a
    match a with
    | ⟨0, _⟩ => exact (Nat.zero_add _).symm
    | ⟨1, _⟩ => exact hj
  have hout : ∀ j : ℕ, (i 1).val < j ∨ j < (i 1).val → (i (1 : Fin 2)).val < (![0, j] : Fin 2 → ℕ) 1 ∨ (![0, j] : Fin 2 → ℕ) 1 + S2048x1.size 1 ≤ (i (1 : Fin 2)).val :=
    fun j hj => hj.imp id fun h => h
  have hlt : (i 1).val < 4 := (i 1).isLt
  rcases (by omega : (i 1).val = 0 ∨ (i 1).val = 1 ∨ (i 1).val = 2 ∨ (i 1).val = 3) with h | h | h | h
  · rw [View.read_writes_cons_unit_of_not_mem _ _ _ _ _ i rfl 1 (hout 3 (.inl (by omega))), View.read_writes_cons_unit_of_not_mem _ _ _ _ _ i rfl 1 (hout 2 (.inl (by omega))),
      View.read_writes_cons_unit_of_not_mem _ _ _ _ _ i rfl 1 (hout 1 (.inl (by omega))), h0 i h]
    exact View.read_writes_cons_unit_of_mem _ _ _ _ _ i (colIdx (i 0)) rfl (hin 0 h)
  · rw [View.read_writes_cons_unit_of_not_mem _ _ _ _ _ i rfl 1 (hout 3 (.inl (by omega))), View.read_writes_cons_unit_of_not_mem _ _ _ _ _ i rfl 1 (hout 2 (.inl (by omega))), h1 i h]
    exact View.read_writes_cons_unit_of_mem _ _ _ _ _ i (colIdx (i 0)) rfl (hin 1 h)
  · rw [View.read_writes_cons_unit_of_not_mem _ _ _ _ _ i rfl 1 (hout 3 (.inl (by omega))), h2 i h]
    exact View.read_writes_cons_unit_of_mem _ _ _ _ _ i (colIdx (i 0)) rfl (hin 2 h)
  · rw [h3 i h]
    exact View.read_writes_cons_unit_of_mem _ _ _ _ _ i (colIdx (i 0)) rfl (hin 3 h)

theorem read_whole_ty {b : Ref sig .tc} (f : (View.whole b).ty.Contents (Elt F)) : (View.whole b).read (Elt F) f = f := rfl

theorem gates_stored (f : gaM.view.ty.Contents (Elt F)) (v0 v1 v2 v3 : Vec F S2048x1 .f32) (g : Vec F S2048x4 .f32)
    (h0 : ∀ i, (i 1).val = 0 → g i = v0 (colIdx (i 0))) (h1 : ∀ i, (i 1).val = 1 → g i = v1 (colIdx (i 0)))
    (h2 : ∀ i, (i 1).val = 2 → g i = v2 (colIdx (i 0))) (h3 : ∀ i, (i 1).val = 3 → g i = v3 (colIdx (i 0))) :
    gaM.view.writes (Elt F) f
      [⟨Rect.unit (s := S2048x4) ![0, 3] S2048x1.size inb_S2048x4_S2048x1_0_3, v3⟩, ⟨Rect.unit (s := S2048x4) ![0, 2] S2048x1.size inb_S2048x4_S2048x1_0_2, v2⟩,
       ⟨Rect.unit (s := S2048x4) ![0, 1] S2048x1.size inb_S2048x4_S2048x1_0_1, v1⟩, ⟨Rect.unit (s := S2048x4) ![0, 0] S2048x1.size inb_S2048x4_S2048x1_0_0, v0⟩] = g :=
  (read_whole_ty _).symm.trans (cols_stored gaM.view f v0 v1 v2 v3 g h0 h1 h2 h3)

/-! A whole buffer stored anew. -/

theorem st_s0M (f : s0M.view.ty.Contents (Elt F)) (w : Vec F S512x512 .bf16) (L) :
    s0M.view.writes (Elt F) f (⟨Rect.unit (s := S512x512) ![0, 0] S512x512.size inb_S512x512_S512x512_0_0, w⟩ :: L) = w :=
  (read_whole_ty _).symm.trans (View.read_writes_full s0M.view f _ w L)

theorem st_s1M (f : s1M.view.ty.Contents (Elt F)) (w : Vec F S512x512 .bf16) (L) :
    s1M.view.writes (Elt F) f (⟨Rect.unit (s := S512x512) ![0, 0] S512x512.size inb_S512x512_S512x512_0_0, w⟩ :: L) = w :=
  (read_whole_ty _).symm.trans (View.read_writes_full s1M.view f _ w L)

theorem st_s2M (f : s2M.view.ty.Contents (Elt F)) (w : Vec F S128x512 .bf16) (L) :
    s2M.view.writes (Elt F) f (⟨Rect.unit (s := S128x512) ![0, 0] S128x512.size inb_S128x512_S128x512_0_0, w⟩ :: L) = w :=
  (read_whole_ty _).symm.trans (View.read_writes_full s2M.view f _ w L)

theorem st_s3M (f : s3M.view.ty.Contents (Elt F)) (w : Vec F S128x512 .bf16) (L) :
    s3M.view.writes (Elt F) f (⟨Rect.unit (s := S128x512) ![0, 0] S128x512.size inb_S128x512_S128x512_0_0, w⟩ :: L) = w :=
  (read_whole_ty _).symm.trans (View.read_writes_full s3M.view f _ w L)

theorem st_apM (f : apM.view.ty.Contents (Elt F)) (w : Vec F S512x512 .f32) (L) :
    apM.view.writes (Elt F) f (⟨Rect.unit (s := S512x512) ![0, 0] S512x512.size inb_S512x512_S512x512_0_0, w⟩ :: L) = w :=
  (read_whole_ty _).symm.trans (View.read_writes_full apM.view f _ w L)

theorem st_amM (f : amM.view.ty.Contents (Elt F)) (w : Vec F S512x512 .f32) (L) :
    amM.view.writes (Elt F) f (⟨Rect.unit (s := S512x512) ![0, 0] S512x512.size inb_S512x512_S512x512_0_0, w⟩ :: L) = w :=
  (read_whole_ty _).symm.trans (View.read_writes_full amM.view f _ w L)

/-! ## Landings -/

theorem bind_value {E : Type → Type} {α β : Type} (a : α) (k : α → Prog E β) : Prog.bind (Prog.ret a) k = k a := rfl

/-- A landing slot loaded. -/
theorem load_slot {α : Type} {sl s' : Shape} (c : Dev nD) (M : Memref sig .tc .vmem sl .bf16) (r : Rect sl) (hr : ∀ a, r.stride a = 1)
    (hq : r.shape.Squeezes s') (hc : r.shape.ShapeCasts s') {X : FVec F s' .bf16} {hl : M.view.LoadsAt r.toLoadRect}
    {k : (r.toLoadRect.shape.Idx → Elt F .bf16) → Prog (TpuEff nD τ sig (Elt F) Λ₀ .tc) α} {Q : α → sProp 𝕄} :
    owns (c : Thread nD τ) ((M.slice r hr).squeeze s' hq) fullShare X
      ⊢ (∀ v, ⌜shapeCast s' v hc = X⌝ -∗ owns (c : Thread nD τ) ((M.slice r hr).squeeze s' hq) fullShare X
          -∗ wp frame (wpE (defs₀ (F := F)) 𝒱₀ (c : Thread nD τ) none) Set.univ (k v) Q)
      -∗ wp frame (wpE (defs₀ (F := F)) 𝒱₀ (c : Thread nD τ) none) Set.univ (.op (.load M r.toLoadRect hl) k) Q := by
  have hset : M.view.setOn r.toLoadRect.set ⊆ ((M.slice r hr).squeeze s' hq).view.set := by
    rw [show ((M.slice r hr).squeeze s' hq).view.set = (M.view.slice r).set from View.set_reshape _ _, View.set_slice]
    exact Finset.Subset.refl _
  unfold owns
  iintro ⟨%f, %hf, H⟩ Hk
  iapply (wp_load 𝒱₀ (c : Thread nD τ) none Set.univ (m := M) hset) $$ H
  iintro H
  ispecialize Hk $$ %(M.view.readAt (Elt F) r.toLoadRect f)
  iapply Hk
  · ipureintro
    exact hf
  · iexists f
    isplitr
    · ipureintro
      exact hf
    · iexact H

/-- The same, of what a landing leaves. -/
theorem load_landed {α : Type} {sl s' : Shape} (c : Dev nD) (ρ : Fin 4) (s : Fin 3) (M : Memref sig .tc .vmem sl .bf16) (r : Rect sl) (hr : ∀ a, r.stride a = 1)
    (hq : r.shape.Squeezes s') (hc : r.shape.ShapeCasts s') {X : FVec F s' .bf16} (hP : rcvPay m ρ s c = owns (c : Thread nD τ) ((M.slice r hr).squeeze s' hq) fullShare X)
    {hl : M.view.LoadsAt r.toLoadRect}
    {k : (r.toLoadRect.shape.Idx → Elt F .bf16) → Prog (TpuEff nD τ sig (Elt F) Λ₀ .tc) α} {Q : α → sProp 𝕄} :
    rcvPay m ρ s c
      ⊢ (∀ v, ⌜shapeCast s' v hc = X⌝ -∗ rcvPay m ρ s c -∗ wp frame (wpE (defs₀ (F := F)) 𝒱₀ (c : Thread nD τ) none) Set.univ (k v) Q)
      -∗ wp frame (wpE (defs₀ (F := F)) 𝒱₀ (c : Thread nD τ) none) Set.univ (.op (.load M r.toLoadRect hl) k) Q := by
  rw [hP]
  exact load_slot c M r hr hq hc

/-! ## What the stages come to -/

theorem stepA (ρ : Fin 4) (s : ℕ) (c : Dev nD) {v : Vec F S1x512x512 .bf16} {a : FVec F S512x512 .f32}
    (hv : shapeCast S512x512 v shapeCasts_S1x512x512_S512x512 = sA m ρ s (nb (opp ρ) c)) (ha : a = part m c (dA ρ (s + 1)) (hA ρ)) :
    lowA (addA (shapeCast S512x512 v shapeCasts_S1x512x512_S512x512) a) = sA m ρ (s + 1) c := by
  rw [hv, ha]
  rfl

theorem stepAcc (ρ : Fin 4) (c : Dev nD) {v : Vec F S1x512x512 .bf16} {a : FVec F S512x512 .f32}
    (hv : shapeCast S512x512 v shapeCasts_S1x512x512_S512x512 = sA m ρ 2 (nb (opp ρ) c)) (ha : a = part m c (dA ρ 3) (hA ρ)) :
    shapeCast S512x512 (addA (shapeCast S512x512 v shapeCasts_S1x512x512_S512x512) a) shapeCasts_S512x512_S512x512 = accA m ρ c := by
  rw [hv, ha]
  rfl

theorem stepB (ρ : Fin 4) (s : ℕ) (c : Dev nD) {v : Vec F S1x128x512 .bf16} {w : FVec F S128x512 .f32}
    (hv : shapeCast S128x512 v shapeCasts_S1x128x512_S128x512 = sB m ρ s (nb (opp ρ) c)) (hw : w = chunk (accA m (low ρ) c) (zq c (dB ρ (s + 1)))) :
    lowB (addB (shapeCast S128x512 v shapeCasts_S1x128x512_S128x512) w) = sB m ρ (s + 1) c := by
  rw [hv, hw]
  rfl

theorem stepOut (ρ : Fin 4) (c : Dev nD) {v : Vec F S1x128x512 .bf16} {w : FVec F S128x512 .f32}
    (hv : shapeCast S128x512 v shapeCasts_S1x128x512_S128x512 = sB m ρ 2 (nb (opp ρ) c)) (hw : w = chunk (accA m (low ρ) c) (zq c (dB ρ 3))) :
    addB (shapeCast S128x512 v shapeCasts_S1x128x512_S128x512) w = outH m ρ c := by
  rw [hv, hw]
  rfl

theorem ap_read (a : Vec F S512x512 .f32) (q : Fin 4) (off : Fin 2 → ℕ) (h : off = ![128 * q.val, 0]) (inb) :
    apM.view.readAt (Elt F) (Rect.unit (s := S512x512) off S128x512.size inb).toLoadRect a = chunk a q := by
  subst h
  exact View.readAt_unit _ _ _ rfl (chunk_inb q)

theorem am_read (a : Vec F S512x512 .f32) (q : Fin 4) (off : Fin 2 → ℕ) (h : off = ![128 * q.val, 0]) (inb) :
    amM.view.readAt (Elt F) (Rect.unit (s := S512x512) off S128x512.size inb).toLoadRect a = chunk a q := by
  subst h
  exact View.readAt_unit _ _ _ rfl (chunk_inb q)

/-- The chunk of the plane before, -/
theorem ap_first (a : Vec F S512x512 .f32) (c : Dev nD) (inb) :
    apM.view.readAt (Elt F) (Rect.unit (s := S512x512) (k0_off16 c) S128x512.size inb).toLoadRect a = chunk a (zq c 7) :=
  ap_read a (zq c 7) _ ((k0_off16_eq c).trans (vec2 (by show _ = 128 * ((c.val / 4 + 7) % 4); omega) rfl)) _
/-- of the plane after, -/
theorem am_first (a : Vec F S512x512 .f32) (c : Dev nD) (inb) :
    amM.view.readAt (Elt F) (Rect.unit (s := S512x512) (k0_off17 c) S128x512.size inb).toLoadRect a = chunk a (zq c 9) :=
  am_read a (zq c 9) _ ((k0_off17_eq c).trans (vec2 (by show _ = 128 * ((c.val / 4 + 9) % 4); omega) rfl)) _
/-- of the planes further before, -/
theorem ap_next (a : Vec F S512x512 .f32) (c : Dev nD) (r : Fin 3) (w : BitVec 32) (hw : w = BitVec.ofNat 32 r.val) (inb) :
    apM.view.readAt (Elt F) (Rect.unit (s := S512x512) (k0_off18 c w) S128x512.size inb).toLoadRect a = chunk a (zq c (6 - r.val)) := by
  subst hw
  exact ap_read a (zq c (6 - r.val)) _ ((k0_off18_eq c r).trans (vec2 (by show _ = 128 * ((c.val / 4 + (6 - r.val)) % 4); omega) rfl)) _
/-- and further after. -/
theorem am_next (a : Vec F S512x512 .f32) (c : Dev nD) (r : Fin 3) (w : BitVec 32) (hw : w = BitVec.ofNat 32 r.val) (inb) :
    amM.view.readAt (Elt F) (Rect.unit (s := S512x512) (k0_off19 c w) S128x512.size inb).toLoadRect a = chunk a (zq c (10 + r.val)) := by
  subst hw
  exact am_read a (zq c (10 + r.val)) _ ((k0_off19_eq c r).trans (vec2 (by show _ = 128 * ((c.val / 4 + (10 + r.val)) % 4); omega) rfl)) _

/-- Both halves of the result stored. -/
theorem halves_stored {κ sp} (v : View sig κ sp S128x1024 .f32) (f : v.ty.Contents (Elt F)) (c : Dev nD) {w0 w1 : Vec F S128x512 .f32}
    (h0 : w0 = outH m 2 c) (h1 : w1 = outH m 3 c) :
    v.read (Elt F) (v.writes (Elt F) f
      [⟨Rect.unit (s := S128x1024) ![0, 512] S128x512.size inb_S128x1024_S128x512_0_512, w1⟩,
       ⟨Rect.unit (s := S128x1024) ![0, 0] S128x512.size inb_S128x1024_S128x512_0_0, w0⟩]) = outAt m c := by
  subst h0 h1
  funext i
  unfold outAt
  have hlt : (i 1).val < 1024 := (i 1).isLt
  have hin : ∀ b : ℕ, (i 1).val = b + (i 1).val % 512 → ∀ a : Fin 2, (i a).val = (![0, b] : Fin 2 → ℕ) a + (outIdx i a).val := by
    intro b hb a
    match a with
    | ⟨0, _⟩ => exact (Nat.zero_add _).symm
    | ⟨1, _⟩ => exact hb
  by_cases h : (i 1).val < 512
  · rw [if_pos h, View.read_writes_cons_unit_of_not_mem _ _ _ _ _ i rfl 1 (.inl h)]
    exact View.read_writes_cons_unit_of_mem _ _ _ _ _ i (outIdx i) rfl (hin 0 (by omega))
  · rw [if_neg h]
    exact View.read_writes_cons_unit_of_mem _ _ _ _ _ i (outIdx i) rfl (hin 512 (by omega))

theorem out_stored (f : ouM.view.ty.Contents (Elt F)) (c : Dev nD) {w0 w1 : Vec F S128x512 .f32} (h0 : w0 = outH m 2 c) (h1 : w1 = outH m 3 c) :
    ouM.view.writes (Elt F) f
      [⟨Rect.unit (s := S128x1024) ![0, 512] S128x512.size inb_S128x1024_S128x512_0_512, w1⟩,
       ⟨Rect.unit (s := S128x1024) ![0, 0] S128x512.size inb_S128x1024_S128x512_0_0, w0⟩] = outAt m c :=
  (read_whole_ty _).symm.trans (halves_stored m ouM.view f c h0 h1)

end Cert.KernelIdeal.Moe

end
-- ==== Proof.KernelIdeal.Cut.lean ====
/-
The kernel's body cut in five.
-/
module

public import proofs.«01_k».proof.Proof.KernelIdeal.Reads

@[expose] public section

set_option backward.proofsInPublic true

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The body cut in five -/

/-- From the last copies across the planes on, -/
def rest26 (d0 : Dev nD) (v4 v14 v19 v24 : BitVec 32) (v994 : FVec F S512x512 .f32) : Prog (TpuEff nD τ sig (Elt F) Λ₀ .tc) PUnit := do
  let ⟨v1038, w468⟩ ← onBufs (k0_part26 (F := F)) d0 v4 v14 v19 v994
  let v1069 ← onBufs (k0_part27 (F := F)) d0 v4 v19 v24 v1038 w468
  let v1098 ← onBufs (k0_part28 (F := F)) d0 v4 v19 v24 v1069
  let ⟨v1119, v1126⟩ ← onBufs (k0_part29 (F := F)) d0 v4 v19 v24 v1098
  let v1148 ← onBufs (k0_part30 (F := F)) d0 v4 v19 v24 v1119 v1126
  let v1177 ← onBufs (k0_part31 (F := F)) d0 v4 v19 v24 v1148
  onBufs (k0_part32 (F := F)) d0 v4 v24 v1177
  Prog.lift (.waitDma2 cc0_scratch13.sem ((l2M.slice (Rect.unit (s := S3x128x512) ![2, 0, 0] S1x128x512.size inb_S3x128x512_S1x128x512_2_0_0) (fun _ => rfl)).squeeze S128x512 squeezes_S1x128x512_S128x512) s2M
    (((Memref.isWhole_whole cc0_scratch9).wordExact_slice rfl _ wordsbf16_S3x128x512_S1x128x512_2_0_0).reshape _ _) (Memref.isWhole_whole cc0_scratch5).wordExact)
  Prog.lift (.waitDma2 cc0_scratch14.sem ((l3M.slice (Rect.unit (s := S3x128x512) ![2, 0, 0] S1x128x512.size inb_S3x128x512_S1x128x512_2_0_0) (fun _ => rfl)).squeeze S128x512 squeezes_S1x128x512_S128x512) s3M
    (((Memref.isWhole_whole cc0_scratch10).wordExact_slice rfl _ wordsbf16_S3x128x512_S1x128x512_2_0_0).reshape _ _) (Memref.isWhole_whole cc0_scratch6).wordExact)
  pure ⟨⟩

/-- from the last but one landings within the plane on, -/
def rest20 (d0 : Dev nD) (v3 v4 v9 v14 v19 v24 : BitVec 32) (v668 v764 : FVec F S512x512 .f32) : Prog (TpuEff nD τ sig (Elt F) Λ₀ .tc) PUnit := do
  let v796 ← onBufs (k0_part20 (F := F)) d0 v9 v14 v668
  let ⟨v830, v832, v835⟩ ← onBufs (k0_part21 (F := F)) d0 v3 v14 v764 v796
  let ⟨v852, v874, v876, v879, v881⟩ ← onBufs (k0_part22 (F := F)) d0 v3 v832 v835
  let ⟨v901, v923, v925⟩ ← onBufs (k0_part23 (F := F)) d0 v3 v830 v852 v874 v876 v879 v881
  let ⟨v945, v967, v969⟩ ← onBufs (k0_part24 (F := F)) d0 v3 v925
  let v994 ← onBufs (k0_part25 (F := F)) d0 v9 v901 v923 v945 v967 v969
  rest26 d0 v4 v14 v19 v24 v994

/-- from the first landings within the plane on, -/
def rest14 (d0 : Dev nD) (v3 v4 v9 v14 v19 v24 : BitVec 32) (v432 v528 : FVec F S512x512 .f32) : Prog (TpuEff nD τ sig (Elt F) Λ₀ .tc) PUnit := do
  onBufs (k0_part14 (F := F)) d0 v9 v14 v432
  let ⟨v575, v597, w263⟩ ← onBufs (k0_part15 (F := F)) d0 v3 v14 v528
  let ⟨v619, v641, v642, w278⟩ ← onBufs (k0_part16 (F := F)) d0 v575 w263
  let ⟨v668, v671, v673, v676, v680, v684⟩ ← onBufs (k0_part17 (F := F)) d0 v3 v597 v619 v641 v642 w278
  let ⟨v693, v715, v717, v720, v724, v728, v730⟩ ← onBufs (k0_part18 (F := F)) d0 v671 v673 v676 v680 v684
  let v764 ← onBufs (k0_part19 (F := F)) d0 v9 v671 v693 v715 v717 v720 v724 v728 v730
  rest20 d0 v3 v4 v9 v14 v19 v24 v668 v764

/-- from the first copy on. -/
def rest7 (d0 : Dev nD) (v3 v4 v9 v14 v19 v24 v232 w99 : BitVec 32) : Prog (TpuEff nD τ sig (Elt F) Λ₀ .tc) PUnit := do
  let ⟨v233, v255, v277, w114⟩ ← onBufs (k0_part7 (F := F)) d0 v232 w99
  let v322 ← onBufs (k0_part8 (F := F)) d0 v233 v255 v277 w114
  let ⟨v339, v348, v352, v356, v360⟩ ← onBufs (k0_part9 (F := F)) d0 v3 v14 v322
  let ⟨v361, v383, v405, w163⟩ ← onBufs (k0_part10 (F := F)) d0 v339 v348 v352 v356 v360
  let ⟨v432, v435, v437, v440, v444, v447⟩ ← onBufs (k0_part11 (F := F)) d0 v3 v339 v361 v383 v405 w163
  let ⟨v457, v479, v481, v484, v488, v492⟩ ← onBufs (k0_part12 (F := F)) d0 v435 v437 v440 v444 v447
  let v528 ← onBufs (k0_part13 (F := F)) d0 v9 v435 v457 v479 v481 v484 v488 v492
  rest14 d0 v3 v4 v9 v14 v19 v24 v432 v528

theorem body_cut : onBufs (cc0_body (F := F)) = (do
    let ⟨d0, v2, v3, v4, v9, v14, v19, v24, v25⟩ ← onBufs (k0_part1 (F := F))
    let ⟨v40, v42, v66, v68⟩ ← onBufs (k0_part2 (F := F)) d0 v19 v24 v25
    let ⟨v107, v108⟩ ← onBufs (k0_part3 (F := F)) v2 v40 v42 v66 v68
    let ⟨v127, v149, w65⟩ ← onBufs (k0_part4 (F := F)) d0 v2 v3 v40 v42 v66 v68 v107 v108
    let ⟨v171, v193, v194, w79⟩ ← onBufs (k0_part5 (F := F)) d0 v127 w65
    let ⟨v232, w99⟩ ← onBufs (k0_part6 (F := F)) d0 v3 v9 v149 v171 v193 v194 w79
    rest7 d0 v3 v4 v9 v14 v19 v24 v232 w99) := by
  rw [cc0_body_eq_skeleton]
  rfl

end Cert.KernelIdeal.Moe

end
-- ==== Proof.KernelIdeal.Body.lean ====
/-
The whole body on one device: one send, one wait, one landing at a time.
-/
module

public import proofs.«01_k».proof.Proof.KernelIdeal.Cut

@[expose] public section

set_option backward.proofsInPublic true

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)
variable (c : Dev nD)

set_option pp.maxSteps 2000 in
set_option maxRecDepth 8000 in
set_option maxHeartbeats 4000000 in
/-- The whole body on device `c`. -/
theorem body_run {Q : PUnit → sProp 𝕄} (fg : Vec F S2048x4 .f32) (fp fm : Vec F S512x512 .f32) (f0 f1 : Vec F S512x512 .bf16) (f2 f3 : Vec F S128x512 .bf16) (fo : Vec F S128x1024 .f32) :
    records m K ⊢ owing (F := F) 0 c -∗ dutyTok ER (cell (nb 0 c) .bar) 0 (opp 0) -∗ dutyTok ER (cell (nb 1 c) .bar) 0 (opp 1) -∗ dutyTok ER (cell (nb 2 c) .bar) 0 (opp 2) -∗ dutyTok ER (cell (nb 3 c) .bar) 0 (opp 3)
      -∗ slots (F := F) (opp 0) c -∗ slots (F := F) (opp 1) c -∗ slots (F := F) (opp 2) c -∗ slots (F := F) (opp 3) c
      -∗ atPos ER (cell c .bar) 0 ∅ 0 -∗ cred (tallyAt (cell c .bar) () 4)
      -∗ stepTok (F := F) 0 0 c -∗ stepTok (F := F) 0 1 c -∗ stepTok (F := F) 0 2 c
      -∗ stepTok (F := F) 1 0 c -∗ stepTok (F := F) 1 1 c -∗ stepTok (F := F) 1 2 c
      -∗ stepTok (F := F) 2 0 c -∗ stepTok (F := F) 2 1 c -∗ stepTok (F := F) 2 2 c
      -∗ stepTok (F := F) 3 0 c -∗ stepTok (F := F) 3 1 c -∗ stepTok (F := F) 3 2 c
      -∗ sat (F := F) 0 0 c -∗ sat (F := F) 1 0 c -∗ sat (F := F) 2 0 c -∗ sat (F := F) 3 0 c
      -∗ rin (F := F) 0 0 c -∗ rin (F := F) 0 1 c -∗ rin (F := F) 0 2 c
      -∗ rin (F := F) 1 0 c -∗ rin (F := F) 1 1 c -∗ rin (F := F) 1 2 c
      -∗ rin (F := F) 2 0 c -∗ rin (F := F) 2 1 c -∗ rin (F := F) 2 2 c
      -∗ rin (F := F) 3 0 c -∗ rin (F := F) 3 1 c -∗ rin (F := F) 3 2 c
      -∗ (xM.view.loc (c : Thread nD τ) ↦{fullShare} (xs m c)) -∗ (rwM.view.loc (c : Thread nD τ) ↦{fullShare} (rws m c)) -∗ (idM.view.loc (c : Thread nD τ) ↦{fullShare} (ids m c)) -∗ (ewM.view.loc (c : Thread nD τ) ↦{fullShare} (ews m c)) -∗ (ouM.view.loc (c : Thread nD τ) ↦{fullShare} fo)
      -∗ (gaM.view.loc (c : Thread nD τ) ↦{fullShare} fg) -∗ (apM.view.loc (c : Thread nD τ) ↦{fullShare} fp) -∗ (amM.view.loc (c : Thread nD τ) ↦{fullShare} fm) -∗ (s0M.view.loc (c : Thread nD τ) ↦{fullShare} f0) -∗ (s1M.view.loc (c : Thread nD τ) ↦{fullShare} f1) -∗ (s2M.view.loc (c : Thread nD τ) ↦{fullShare} f2) -∗ (s3M.view.loc (c : Thread nD τ) ↦{fullShare} f3)
      -∗ (owing (F := F) 16 c -∗ atPos ER (cell c .bar) 1 ∅ 0
        -∗ sat (F := F) 0 3 c -∗ sat (F := F) 1 3 c -∗ sat (F := F) 2 3 c -∗ sat (F := F) 3 3 c
        -∗ rdone (F := F) 0 0 c -∗ rdone (F := F) 0 1 c -∗ rdone (F := F) 0 2 c
        -∗ rdone (F := F) 1 0 c -∗ rdone (F := F) 1 1 c -∗ rdone (F := F) 1 2 c
        -∗ rdone (F := F) 2 0 c -∗ rdone (F := F) 2 1 c -∗ rdone (F := F) 2 2 c
        -∗ rdone (F := F) 3 0 c -∗ rdone (F := F) 3 1 c -∗ rdone (F := F) 3 2 c
        -∗ rcvPay m 0 0 c -∗ rcvPay m 0 1 c -∗ rcvPay m 0 2 c
        -∗ rcvPay m 1 0 c -∗ rcvPay m 1 1 c -∗ rcvPay m 1 2 c
        -∗ rcvPay m 2 0 c -∗ rcvPay m 2 1 c -∗ rcvPay m 2 2 c
        -∗ rcvPay m 3 0 c -∗ rcvPay m 3 1 c -∗ rcvPay m 3 2 c
        -∗ (xM.view.loc (c : Thread nD τ) ↦{fullShare} (xs m c)) -∗ (rwM.view.loc (c : Thread nD τ) ↦{fullShare} (rws m c)) -∗ (idM.view.loc (c : Thread nD τ) ↦{fullShare} (ids m c)) -∗ (ewM.view.loc (c : Thread nD τ) ↦{fullShare} (ews m c)) -∗ (ouM.view.loc (c : Thread nD τ) ↦{fullShare} (outAt m c))
        -∗ (gaM.view.loc (c : Thread nD τ) ↦{fullShare} (gates m c)) -∗ (apM.view.loc (c : Thread nD τ) ↦{fullShare} (accA m 0 c)) -∗ (amM.view.loc (c : Thread nD τ) ↦{fullShare} (accA m 1 c))
        -∗ (s0M.view.loc (c : Thread nD τ) ↦{fullShare} (sA m 0 2 c)) -∗ (s1M.view.loc (c : Thread nD τ) ↦{fullShare} (sA m 1 2 c)) -∗ (s2M.view.loc (c : Thread nD τ) ↦{fullShare} (sB m 2 2 c)) -∗ (s3M.view.loc (c : Thread nD τ) ↦{fullShare} (sB m 3 2 c)) -∗ Q ⟨⟩)
      -∗ wp frame (wpE (defs₀ (F := F)) 𝒱₀ (c : Thread nD τ) none) Set.univ (onBufs (cc0_body (F := F))) Q := by
  rw [body_cut]
  rw [k0_part1_eq_skeleton, k0_part2_eq_skeleton, k0_part3_eq_skeleton, k0_part4_eq_skeleton, k0_part5_eq_skeleton, k0_part6_eq_skeleton]
  iintro #HR HO HB0 HB1 HB2 HB3 Hs0 Hs1 Hs2 Hs3 HatB HcB HT00 HT01 HT02 HT10 HT11 HT12 HT20 HT21 HT22 HT30 HT31 HT32 Ha0 Ha1 Ha2 Ha3 HI00 HI01 HI02 HI10 HI11 HI12 HI20 HI21 HI22 HI30 HI31 HI32 Hx Hrw Hid Hw Hou Hg Hap Ham Hst0 Hst1 Hst2 Hst3 Hk
  sl_exec
  iapply (greet m K c 0 _ (by exact Fin.ext (k0_dev1_eq c)) _ rfl 1 rfl 0 rfl) $$ HR HO HB0 Hs0
  iintro HO
  sl_exec
  iapply (greet m K c 1 _ (by exact Fin.ext (k0_dev2_eq c)) _ rfl 1 rfl 1 rfl) $$ HR HO HB1 Hs1
  iintro HO
  sl_exec
  iapply (greet m K c 2 _ (by exact Fin.ext (k0_dev3_eq c)) _ rfl 1 rfl 2 rfl) $$ HR HO HB2 Hs2
  iintro HO
  sl_exec
  iapply (greet m K c 3 _ (by exact Fin.ext (k0_dev4_eq c)) _ rfl 1 rfl 3 rfl) $$ HR HO HB3 Hs3
  iintro HO
  sl_exec
  iapply (greeted m K c _ rfl 4 rfl 4 (by decide)) $$ HR HO HatB HcB
  iintro HO HatB ⟨Hn0, Hn1, Hn2, Hn3⟩
  unfold slots
  icases Hn0 with ⟨Hn00, Hn01, Hn02⟩
  icases Hn1 with ⟨Hn10, Hn11, Hn12⟩
  icases Hn2 with ⟨Hn20, Hn21, Hn22⟩
  icases Hn3 with ⟨Hn30, Hn31, Hn32⟩
  sl_exec
  have qw : body_run.sl.v2 c = devWord c := rfl
  have q0 : body_run.sl.r m c = e0 m c := by
    unfold body_run.sl.r e0
    rw [id_read m c 0 ![0, 0] rfl]
  have q1 : body_run.sl.r_1 m c = e1 m c := by
    unfold body_run.sl.r_1 e1
    rw [id_read m c 1 ![0, 1] rfl]
  have q2 : body_run.sl.r_2 m c = g0 m c := by
    unfold body_run.sl.r_2 g0
    rw [id_read m c 0 ![0, 0] rfl, id_read m c 1 ![0, 1] rfl, x_read, rw_read]
  have q3 : body_run.sl.r_3 m c = g1 m c := by
    unfold body_run.sl.r_3 g1
    rw [id_read m c 0 ![0, 0] rfl, id_read m c 1 ![0, 1] rfl, x_read, rw_read]
  have q4 : body_run.sl.r_4 m c = k0_pay13 (devWord c) (e0 m c) (e1 m c) (g0 m c) (g1 m c) := by
    unfold body_run.sl.r_4
    rw [q0, q1, q2, q3, qw]
  have hG : gaM.view.writes (Elt F) gaM.view.junk (body_run.sl.Hg_4 m c) = gates m c := by
    unfold body_run.sl.Hg_4
    rw [q0, q1, q2, q3, q4, qw]
    exact gates_stored _ _ _ _ _ (gates m c) (fun i h => gates_at m c i 0 h) (fun i h => gates_at m c i 1 h)
      (fun i h => gates_at m c i 2 h) (fun i h => gates_at m c i 3 h)
  have e5 : body_run.sl.r_5 m c = blk (xs m c) (gates m c) (tile c 7 0) := by
    unfold body_run.sl.r_5
    rw [hG]
    exact blkA _ _ c 0 _ rfl _ _ _ _ _
  have e6 : body_run.sl.r_6 m c = blk (xs m c) (gates m c) (tile c 7 1) := by
    unfold body_run.sl.r_6
    rw [hG]
    exact blkA _ _ c 1 _ rfl _ _ _ _ _
  have e7 : body_run.sl.r_7 m c = blk (xs m c) (gates m c) (tile c 7 2) := by
    unfold body_run.sl.r_7
    rw [hG]
    exact blkA _ _ c 2 _ rfl _ _ _ _ _
  rw [hG]
  generalize hX : s0M.view.writes (Elt F) f0 _ = X
  have hX' : X = sA m 0 0 c := hX.symm.trans ((st_s0M _ _ _).trans
    (congrArg lowA (half4_part m c 7 0 e5 e6 e7 (blkA _ _ c 3 _ rfl _ _ _ _ _) (ew_read m c 0 _ rfl _))))
  subst hX'
  iapply (send_step m K c 0 0 0 4 5 rfl rfl _ (by exact Fin.ext (k0_dev5_eq c)) s0M _ _ _ (fun c' => sA m 0 0 c') rfl rfl (View.set_whole _) (fun _ => rfl) rfl rfl rfl rfl) $$ HR HO Hst0 HT00 Hn00 Ha0
  iintro HO Ha0
  unfold rest7
  rw [k0_part7_eq_skeleton, k0_part8_eq_skeleton, k0_part9_eq_skeleton, k0_part10_eq_skeleton, k0_part11_eq_skeleton, k0_part12_eq_skeleton, k0_part13_eq_skeleton]
  sl_exec
  generalize hX10 : s1M.view.writes (Elt F) _ _ = X10
  have hY10 : X10 = sA m 1 0 c := hX10.symm.trans ((st_s1M _ _ _).trans (congrArg lowA (half4_part m c 9 1 (blkB _ _ c 0 0 _ _ rfl rfl _ _ _ _ _) (blkB _ _ c 1 0 _ _ rfl rfl _ _ _ _ _) (blkB _ _ c 2 0 _ _ rfl rfl _ _ _ _ _) (blkB _ _ c 3 0 _ _ rfl rfl _ _ _ _ _) (ew_read m c 1 _ rfl _))))
  subst hY10
  iapply (send_step m K c 1 0 0 5 6 rfl rfl _ (by exact Fin.ext (k0_dev6_eq c)) s1M _ _ _ (fun c' => sA m 1 0 c') rfl rfl (View.set_whole _) (fun _ => rfl) rfl rfl rfl rfl) $$ HR HO Hst1 HT10 Hn10 Ha1
  iintro HO Ha1
  unfold rest14
  rw [k0_part14_eq_skeleton, k0_part15_eq_skeleton, k0_part16_eq_skeleton, k0_part17_eq_skeleton, k0_part18_eq_skeleton, k0_part19_eq_skeleton]
  sl_exec
  iapply (wait_landed m K c 0 0 6 _ s0M (slA l0M 0) rfl rfl (by decide)) $$ HR HO HI00
  iintro HO HI00 HP00
  sl_exec
  iapply (wait_sent m K c 0 0 0 1 6 rfl rfl _ (slA l0M 0) s0M rfl rfl (by decide) (P := (s0M.view.loc (c : Thread nD τ) ↦{fullShare} sA m 0 0 c)) rfl) $$ HR HO Ha0
  iintro HO Ha0 Hst0
  iapply (load_landed m c 0 0 l0M _ (fun _ => rfl) squeezes_S1x512x512_S512x512 shapeCasts_S1x512x512_S512x512 rfl) $$ HP00
  iintro %v00 %hv00 HP00
  rw [bind_value]
  sl_exec
  generalize hX01 : s0M.view.writes (Elt F) _ _ = X01
  have hY01 : X01 = sA m 0 1 c := hX01.symm.trans ((st_s0M _ _ _).trans (stepA m 0 0 c hv00 (half4_part m c 10 0 (blkB _ _ c 0 1 _ _ rfl rfl _ _ _ _ _) (blkB _ _ c 1 1 _ _ rfl rfl _ _ _ _ _) (blkB _ _ c 2 1 _ _ rfl rfl _ _ _ _ _) (blkB _ _ c 3 1 _ _ rfl rfl _ _ _ _ _) (ew_read m c 0 _ rfl _))))
  subst hY01
  iapply (send_step m K c 0 1 1 6 7 rfl rfl _ (by exact Fin.ext (k0_dev7_eq c)) s0M _ _ _ (fun c' => sA m 0 1 c') rfl rfl (View.set_whole _) (fun _ => rfl) rfl rfl rfl rfl) $$ HR HO Hst0 HT01 Hn01 Ha0
  iintro HO Ha0
  sl_exec
  iapply (wait_landed m K c 1 0 7 _ s1M (slA l1M 0) rfl rfl (by decide)) $$ HR HO HI10
  iintro HO HI10 HP10
  sl_exec
  iapply (wait_sent m K c 1 0 0 1 7 rfl rfl _ (slA l1M 0) s1M rfl rfl (by decide) (P := (s1M.view.loc (c : Thread nD τ) ↦{fullShare} sA m 1 0 c)) rfl) $$ HR HO Ha1
  iintro HO Ha1 Hst1
  sl_exec
  iapply (load_landed m c 1 0 l1M _ (fun _ => rfl) squeezes_S1x512x512_S512x512 shapeCasts_S1x512x512_S512x512 rfl) $$ HP10
  iintro %v10 %hv10 HP10
  sl_exec
  generalize hX11 : s1M.view.writes (Elt F) _ _ = X11
  have hY11 : X11 = sA m 1 1 c := hX11.symm.trans ((st_s1M _ _ _).trans (stepA m 1 0 c hv10 (half4_part m c 10 1 (blkB _ _ c 0 1 _ _ rfl rfl _ _ _ _ _) (blkB _ _ c 1 1 _ _ rfl rfl _ _ _ _ _) (blkB _ _ c 2 1 _ _ rfl rfl _ _ _ _ _) (blkB _ _ c 3 1 _ _ rfl rfl _ _ _ _ _) (ew_read m c 1 _ rfl _))))
  subst hY11
  iapply (send_step m K c 1 1 1 7 8 rfl rfl _ (by exact Fin.ext (k0_dev8_eq c)) s1M _ _ _ (fun c' => sA m 1 1 c') rfl rfl (View.set_whole _) (fun _ => rfl) rfl rfl rfl rfl) $$ HR HO Hst1 HT11 Hn11 Ha1
  iintro HO Ha1
  sl_exec
  iapply (wait_landed m K c 0 1 8 _ s0M (slA l0M 1) rfl rfl (by decide)) $$ HR HO HI01
  iintro HO HI01 HP01
  unfold rest20
  rw [k0_part20_eq_skeleton, k0_part21_eq_skeleton, k0_part22_eq_skeleton, k0_part23_eq_skeleton, k0_part24_eq_skeleton, k0_part25_eq_skeleton]
  sl_exec
  iapply (wait_sent m K c 0 1 1 2 8 rfl rfl _ (slA l0M 1) s0M rfl rfl (by decide) (P := (s0M.view.loc (c : Thread nD τ) ↦{fullShare} sA m 0 1 c)) rfl) $$ HR HO Ha0
  iintro HO Ha0 Hst0
  iapply (load_landed m c 0 1 l0M _ (fun _ => rfl) squeezes_S1x512x512_S512x512 shapeCasts_S1x512x512_S512x512 rfl) $$ HP01
  iintro %v01 %hv01 HP01
  rw [bind_value]
  sl_exec
  generalize hX02 : s0M.view.writes (Elt F) _ _ = X02
  have hY02 : X02 = sA m 0 2 c := hX02.symm.trans ((st_s0M _ _ _).trans (stepA m 0 1 c hv01 (half4_part m c 9 0 (blkB _ _ c 0 0 _ _ rfl rfl _ _ _ _ _) (blkB _ _ c 1 0 _ _ rfl rfl _ _ _ _ _) (blkB _ _ c 2 0 _ _ rfl rfl _ _ _ _ _) (blkB _ _ c 3 0 _ _ rfl rfl _ _ _ _ _) (ew_read m c 0 _ rfl _))))
  subst hY02
  iapply (send_step m K c 0 2 2 8 9 rfl rfl _ (by exact Fin.ext (k0_dev9_eq c)) s0M _ _ _ (fun c' => sA m 0 2 c') rfl rfl (View.set_whole _) (fun _ => rfl) rfl rfl rfl rfl) $$ HR HO Hst0 HT02 Hn02 Ha0
  iintro HO Ha0
  sl_exec
  iapply (wait_landed m K c 1 1 9 _ s1M (slA l1M 1) rfl rfl (by decide)) $$ HR HO HI11
  iintro HO HI11 HP11
  sl_exec
  iapply (wait_sent m K c 1 1 1 2 9 rfl rfl _ (slA l1M 1) s1M rfl rfl (by decide) (P := (s1M.view.loc (c : Thread nD τ) ↦{fullShare} sA m 1 1 c)) rfl) $$ HR HO Ha1
  iintro HO Ha1 Hst1
  iapply (load_landed m c 1 1 l1M _ (fun _ => rfl) squeezes_S1x512x512_S512x512 shapeCasts_S1x512x512_S512x512 rfl) $$ HP11
  iintro %v11 %hv11 HP11
  rw [bind_value]
  sl_exec
  generalize hX12 : s1M.view.writes (Elt F) _ _ = X12
  have hY12 : X12 = sA m 1 2 c := hX12.symm.trans ((st_s1M _ _ _).trans (stepA m 1 1 c hv11 (half4_part m c 7 1 (blkA _ _ c 0 _ rfl _ _ _ _ _) (blkA _ _ c 1 _ rfl _ _ _ _ _) (blkA _ _ c 2 _ rfl _ _ _ _ _) (blkA _ _ c 3 _ rfl _ _ _ _ _) (ew_read m c 1 _ rfl _))))
  subst hY12
  iapply (send_step m K c 1 2 2 9 10 rfl rfl _ (by exact Fin.ext (k0_dev10_eq c)) s1M _ _ _ (fun c' => sA m 1 2 c') rfl rfl (View.set_whole _) (fun _ => rfl) rfl rfl rfl rfl) $$ HR HO Hst1 HT12 Hn12 Ha1
  iintro HO Ha1
  sl_exec
  iapply (wait_landed m K c 0 2 10 _ s0M (slA l0M 2) rfl rfl (by decide)) $$ HR HO HI02
  iintro HO HI02 HP02
  iapply (load_landed m c 0 2 l0M _ (fun _ => rfl) squeezes_S1x512x512_S512x512 shapeCasts_S1x512x512_S512x512 rfl) $$ HP02
  iintro %v02 %hv02 HP02
  rw [bind_value]
  unfold rest26
  rw [k0_part26_eq_skeleton, k0_part27_eq_skeleton, k0_part28_eq_skeleton, k0_part29_eq_skeleton, k0_part30_eq_skeleton, k0_part31_eq_skeleton, k0_part32_eq_skeleton]
  sl_exec
  generalize hXap : apM.view.writes (Elt F) _ _ = Xap
  have hYap : Xap = accA m 0 c := hXap.symm.trans ((st_apM _ _ _).trans (stepAcc m 0 c hv02 (half4_part m c 0 0 (blkC _ _ c 0 _ rfl _ _ _ _ _) (blkC _ _ c 1 _ rfl _ _ _ _ _) (blkC _ _ c 2 _ rfl _ _ _ _ _) (blkC _ _ c 3 _ rfl _ _ _ _ _) (ew_read m c 0 _ rfl _))))
  subst hYap
  iapply (wait_landed m K c 1 2 10 _ s1M (slA l1M 2) rfl rfl (by decide)) $$ HR HO HI12
  iintro HO HI12 HP12
  iapply (load_landed m c 1 2 l1M _ (fun _ => rfl) squeezes_S1x512x512_S512x512 shapeCasts_S1x512x512_S512x512 rfl) $$ HP12
  iintro %v12 %hv12 HP12
  rw [bind_value]
  sl_exec
  generalize hXam : amM.view.writes (Elt F) _ _ = Xam
  have hYam : Xam = accA m 1 c := hXam.symm.trans ((st_amM _ _ _).trans (stepAcc m 1 c hv12 (half4_part m c 0 1 (blkC _ _ c 0 _ rfl _ _ _ _ _) (blkC _ _ c 1 _ rfl _ _ _ _ _) (blkC _ _ c 2 _ rfl _ _ _ _ _) (blkC _ _ c 3 _ rfl _ _ _ _ _) (ew_read m c 1 _ rfl _))))
  subst hYam
  generalize hX20 : s2M.view.writes (Elt F) _ _ = X20
  have hY20 : X20 = sB m 2 0 c := hX20.symm.trans ((st_s2M _ _ _).trans (congrArg lowB (ap_first _ c _)))
  subst hY20
  iapply (send_step m K c 2 0 0 10 11 rfl rfl _ (by exact Fin.ext (k0_dev11_eq c)) s2M _ _ _ (fun c' => sB m 2 0 c') rfl rfl (View.set_whole _) (fun _ => rfl) rfl rfl rfl rfl) $$ HR HO Hst2 HT20 Hn20 Ha2
  iintro HO Ha2
  sl_exec
  generalize hX30 : s3M.view.writes (Elt F) _ _ = X30
  have hY30 : X30 = sB m 3 0 c := hX30.symm.trans ((st_s3M _ _ _).trans (congrArg lowB (am_first _ c _)))
  subst hY30
  iapply (send_step m K c 3 0 0 11 12 rfl rfl _ (by exact Fin.ext (k0_dev12_eq c)) s3M _ _ _ (fun c' => sB m 3 0 c') rfl rfl (View.set_whole _) (fun _ => rfl) rfl rfl rfl rfl) $$ HR HO Hst3 HT30 Hn30 Ha3
  iintro HO Ha3
  sl_exec
  iapply (wait_landed m K c 2 0 12 _ s2M (slB l2M 0) rfl rfl (by decide)) $$ HR HO HI20
  iintro HO HI20 HP20
  iapply (load_landed m c 2 0 l2M _ (fun _ => rfl) squeezes_S1x128x512_S128x512 shapeCasts_S1x128x512_S128x512 rfl) $$ HP20
  iintro %v20 %hv20 HP20
  rw [bind_value]
  sl_exec
  iapply (wait_sent m K c 2 0 0 1 12 rfl rfl _ (slB l2M 0) s2M rfl rfl (by decide) (P := (s2M.view.loc (c : Thread nD τ) ↦{fullShare} sB m 2 0 c)) rfl) $$ HR HO Ha2
  iintro HO Ha2 Hst2
  sl_exec
  generalize hX21 : s2M.view.writes (Elt F) _ _ = X21
  have hY21 : X21 = sB m 2 1 c := hX21.symm.trans ((st_s2M _ _ _).trans (stepB m 2 0 c hv20 (ap_next _ c 0 _ rfl _)))
  subst hY21
  iapply (send_step m K c 2 1 1 12 13 rfl rfl _ (by exact Fin.ext (k0_dev13_eq c)) s2M _ _ _ (fun c' => sB m 2 1 c') rfl rfl (View.set_whole _) (fun _ => rfl) rfl rfl rfl rfl) $$ HR HO Hst2 HT21 Hn21 Ha2
  iintro HO Ha2
  sl_exec
  iapply (wait_landed m K c 3 0 13 _ s3M (slB l3M 0) rfl rfl (by decide)) $$ HR HO HI30
  iintro HO HI30 HP30
  iapply (load_landed m c 3 0 l3M _ (fun _ => rfl) squeezes_S1x128x512_S128x512 shapeCasts_S1x128x512_S128x512 rfl) $$ HP30
  iintro %v30 %hv30 HP30
  rw [bind_value]
  sl_exec
  iapply (wait_sent m K c 3 0 0 1 13 rfl rfl _ (slB l3M 0) s3M rfl rfl (by decide) (P := (s3M.view.loc (c : Thread nD τ) ↦{fullShare} sB m 3 0 c)) rfl) $$ HR HO Ha3
  iintro HO Ha3 Hst3
  sl_exec
  generalize hX31 : s3M.view.writes (Elt F) _ _ = X31
  have hY31 : X31 = sB m 3 1 c := hX31.symm.trans ((st_s3M _ _ _).trans (stepB m 3 0 c hv30 (am_next _ c 0 _ rfl _)))
  subst hY31
  iapply (send_step m K c 3 1 1 13 14 rfl rfl _ (by exact Fin.ext (k0_dev14_eq c)) s3M _ _ _ (fun c' => sB m 3 1 c') rfl rfl (View.set_whole _) (fun _ => rfl) rfl rfl rfl rfl) $$ HR HO Hst3 HT31 Hn31 Ha3
  iintro HO Ha3
  sl_exec
  iapply (wait_landed m K c 2 1 14 _ s2M (slB l2M 1) rfl rfl (by decide)) $$ HR HO HI21
  iintro HO HI21 HP21
  iapply (load_landed m c 2 1 l2M _ (fun _ => rfl) squeezes_S1x128x512_S128x512 shapeCasts_S1x128x512_S128x512 rfl) $$ HP21
  iintro %v21 %hv21 HP21
  rw [bind_value]
  sl_exec
  iapply (wait_sent m K c 2 1 1 2 14 rfl rfl _ (slB l2M 1) s2M rfl rfl (by decide) (P := (s2M.view.loc (c : Thread nD τ) ↦{fullShare} sB m 2 1 c)) rfl) $$ HR HO Ha2
  iintro HO Ha2 Hst2
  sl_exec
  generalize hX22 : s2M.view.writes (Elt F) _ _ = X22
  have hY22 : X22 = sB m 2 2 c := hX22.symm.trans ((st_s2M _ _ _).trans (stepB m 2 1 c hv21 (ap_next _ c 1 _ rfl _)))
  subst hY22
  iapply (send_step m K c 2 2 2 14 15 rfl rfl _ (by exact Fin.ext (k0_dev15_eq c)) s2M _ _ _ (fun c' => sB m 2 2 c') rfl rfl (View.set_whole _) (fun _ => rfl) rfl rfl rfl rfl) $$ HR HO Hst2 HT22 Hn22 Ha2
  iintro HO Ha2
  sl_exec
  iapply (wait_landed m K c 3 1 15 _ s3M (slB l3M 1) rfl rfl (by decide)) $$ HR HO HI31
  iintro HO HI31 HP31
  iapply (load_landed m c 3 1 l3M _ (fun _ => rfl) squeezes_S1x128x512_S128x512 shapeCasts_S1x128x512_S128x512 rfl) $$ HP31
  iintro %v31 %hv31 HP31
  rw [bind_value]
  sl_exec
  iapply (wait_sent m K c 3 1 1 2 15 rfl rfl _ (slB l3M 1) s3M rfl rfl (by decide) (P := (s3M.view.loc (c : Thread nD τ) ↦{fullShare} sB m 3 1 c)) rfl) $$ HR HO Ha3
  iintro HO Ha3 Hst3
  sl_exec
  generalize hX32 : s3M.view.writes (Elt F) _ _ = X32
  have hY32 : X32 = sB m 3 2 c := hX32.symm.trans ((st_s3M _ _ _).trans (stepB m 3 1 c hv31 (am_next _ c 1 _ rfl _)))
  subst hY32
  iapply (send_step m K c 3 2 2 15 16 rfl rfl _ (by exact Fin.ext (k0_dev16_eq c)) s3M _ _ _ (fun c' => sB m 3 2 c') rfl rfl (View.set_whole _) (fun _ => rfl) rfl rfl rfl rfl) $$ HR HO Hst3 HT32 Hn32 Ha3
  iintro HO Ha3
  sl_exec
  iapply (wait_landed m K c 2 2 16 _ s2M (slB l2M 2) rfl rfl (by decide)) $$ HR HO HI22
  iintro HO HI22 HP22
  iapply (load_landed m c 2 2 l2M _ (fun _ => rfl) squeezes_S1x128x512_S128x512 shapeCasts_S1x128x512_S128x512 rfl) $$ HP22
  iintro %v22 %hv22 HP22
  rw [bind_value]
  sl_exec
  iapply (wait_landed m K c 3 2 16 _ s3M (slB l3M 2) rfl rfl (by decide)) $$ HR HO HI32
  iintro HO HI32 HP32
  iapply (load_landed m c 3 2 l3M _ (fun _ => rfl) squeezes_S1x128x512_S128x512 shapeCasts_S1x128x512_S128x512 rfl) $$ HP32
  iintro %v32 %hv32 HP32
  rw [bind_value]
  sl_exec
  generalize hXo : ouM.view.writes (Elt F) _ _ = Xo
  have hYo : Xo = outAt m c := hXo.symm.trans (out_stored m _ c (stepOut m 2 c hv22 (ap_next _ c 2 _ rfl _)) (stepOut m 3 c hv32 (am_next _ c 2 _ rfl _)))
  subst hYo
  iapply (wait_sent m K c 0 2 2 3 16 rfl rfl _ (slA l0M 2) s0M rfl rfl (by decide) (P := (s0M.view.loc (c : Thread nD τ) ↦{fullShare} sA m 0 2 c)) rfl) $$ HR HO Ha0
  iintro HO Ha0 Hst0
  sl_exec
  iapply (wait_sent m K c 1 2 2 3 16 rfl rfl _ (slA l1M 2) s1M rfl rfl (by decide) (P := (s1M.view.loc (c : Thread nD τ) ↦{fullShare} sA m 1 2 c)) rfl) $$ HR HO Ha1
  iintro HO Ha1 Hst1
  sl_exec
  iapply (wait_sent m K c 2 2 2 3 16 rfl rfl _ (slB l2M 2) s2M rfl rfl (by decide) (P := (s2M.view.loc (c : Thread nD τ) ↦{fullShare} sB m 2 2 c)) rfl) $$ HR HO Ha2
  iintro HO Ha2 Hst2
  iapply (wait_sent m K c 3 2 2 3 16 rfl rfl _ (slB l3M 2) s3M rfl rfl (by decide) (P := (s3M.view.loc (c : Thread nD τ) ↦{fullShare} sB m 3 2 c)) rfl) $$ HR HO Ha3
  iintro HO Ha3 Hst3
  rw [bind_value, show (Pure.pure PUnit.unit : Prog (TpuEff nD τ sig (Elt F) Λ₀ .tc) PUnit) = Prog.ret PUnit.unit from rfl, wp_ret]
  imodintro
  iapply Hk $$ HO HatB Ha0 Ha1 Ha2 Ha3 HI00 HI01 HI02 HI10 HI11 HI12 HI20 HI21 HI22 HI30 HI31 HI32 HP00 HP01 HP02 HP10 HP11 HP12 HP20 HP21 HP22 HP30 HP31 HP32 Hx Hrw Hid Hw Hou Hg Hap Ham Hst0 Hst1 Hst2 Hst3

end Cert.KernelIdeal.Moe
-- ==== Proof.KernelIdeal.Slots.lean ====
/-
A landing buffer is its three slots; the seventeen cells of a device close once they have run their rounds.
-/
module

public import proofs.«01_k».proof.Proof.KernelIdeal.Reads
public import Idealize.ShloMosaic.Lib.Ring

@[expose] public section

set_option backward.proofsInPublic true

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots of a landing buffer -/

/-- The layers of a stack of three, -/
def layA (s : Fin 3) : Rect S3x512x512 := Rect.unit (s := S3x512x512) ![s.val, 0, 0] S1x512x512.size (by revert s; decide)
def layB (s : Fin 3) : Rect S3x128x512 := Rect.unit (s := S3x128x512) ![s.val, 0, 0] S1x128x512.size (by revert s; decide)

theorem layA_apart (s s' : Fin 3) (h : s ≠ s') : Disjoint (layA s).set (layA s').set :=
  Ring.lead_disjoint (s := S3x512x512) (0 : Fin 3) 1 (fun j : Fin 3 => (![j.val, 0, 0] : Fin 3 → ℕ)) S1x512x512.size _ (fun j => by simp) rfl s s' h
theorem layB_apart (s s' : Fin 3) (h : s ≠ s') : Disjoint (layB s).set (layB s').set :=
  Ring.lead_disjoint (s := S3x128x512) (0 : Fin 3) 1 (fun j : Fin 3 => (![j.val, 0, 0] : Fin 3 → ℕ)) S1x128x512.size _ (fun j => by simp) rfl s s' h
theorem layA_all : Finset.univ.biUnion (fun s => (layA s).set) = Finset.univ :=
  Ring.lead_cover (s := S3x512x512) (0 : Fin 3) 1 (fun j : Fin 3 => (![j.val, 0, 0] : Fin 3 → ℕ)) S1x512x512.size _ (fun j => by simp)
    (by decide) rfl (by decide) rfl
theorem layB_all : Finset.univ.biUnion (fun s => (layB s).set) = Finset.univ :=
  Ring.lead_cover (s := S3x128x512) (0 : Fin 3) 1 (fun j : Fin 3 => (![j.val, 0, 0] : Fin 3 → ℕ)) S1x128x512.size _ (fun j => by simp)
    (by decide) rfl (by decide) rfl

theorem held_congr {ℓ : Loc nD τ sig} {I J : Finset (Idx ℓ)} (h : I = J) (f : Buf (Elt F) ℓ) : (ℓ ↦[I]{fullShare} f : sProp 𝕄) = (ℓ ↦[J]{fullShare} f) := by rw [h]

/-- Ring `ρ`'s landing buffer whole, whatever it holds. -/
def landAny (ρ : Fin 4) (c : Dev nD) : sProp 𝕄 := match ρ with
  | 0 => iprop(∃ f, l0M.view.loc (c : Thread nD τ) ↦{fullShare} f)
  | 1 => iprop(∃ f, l1M.view.loc (c : Thread nD τ) ↦{fullShare} f)
  | 2 => iprop(∃ f, l2M.view.loc (c : Thread nD τ) ↦{fullShare} f)
  | 3 => iprop(∃ f, l3M.view.loc (c : Thread nD τ) ↦{fullShare} f)

theorem slots_of_land (ρ : Fin 4) (c : Dev nD) : landAny (F := F) ρ c ⊢ slots ρ c := by
  unfold landAny slots
  fin_cases ρ
  · exact Ring.slots3_split (ℓ := l0M.view.loc (c : Thread nD τ)) (fun s => (layA s).set) layA_apart layA_all _ _ _
      (held_congr ((View.set_reshape _ _).trans (View.set_slice_whole _ _)))
      (held_congr ((View.set_reshape _ _).trans (View.set_slice_whole _ _)))
      (held_congr ((View.set_reshape _ _).trans (View.set_slice_whole _ _)))
  · exact Ring.slots3_split (ℓ := l1M.view.loc (c : Thread nD τ)) (fun s => (layA s).set) layA_apart layA_all _ _ _
      (held_congr ((View.set_reshape _ _).trans (View.set_slice_whole _ _)))
      (held_congr ((View.set_reshape _ _).trans (View.set_slice_whole _ _)))
      (held_congr ((View.set_reshape _ _).trans (View.set_slice_whole _ _)))
  · exact Ring.slots3_split (ℓ := l2M.view.loc (c : Thread nD τ)) (fun s => (layB s).set) layB_apart layB_all _ _ _
      (held_congr ((View.set_reshape _ _).trans (View.set_slice_whole _ _)))
      (held_congr ((View.set_reshape _ _).trans (View.set_slice_whole _ _)))
      (held_congr ((View.set_reshape _ _).trans (View.set_slice_whole _ _)))
  · exact Ring.slots3_split (ℓ := l3M.view.loc (c : Thread nD τ)) (fun s => (layB s).set) layB_apart layB_all _ _ _
      (held_congr ((View.set_reshape _ _).trans (View.set_slice_whole _ _)))
      (held_congr ((View.set_reshape _ _).trans (View.set_slice_whole _ _)))
      (held_congr ((View.set_reshape _ _).trans (View.set_slice_whole _ _)))

theorem land_of_slots (ρ : Fin 4) (c : Dev nD) : slots ρ c ⊢ landAny (F := F) ρ c := by
  unfold landAny slots
  fin_cases ρ
  · exact Ring.slots3_join (ℓ := l0M.view.loc (c : Thread nD τ)) (fun s => (layA s).set) layA_apart layA_all _ _ _
      (held_congr ((View.set_reshape _ _).trans (View.set_slice_whole _ _)))
      (held_congr ((View.set_reshape _ _).trans (View.set_slice_whole _ _)))
      (held_congr ((View.set_reshape _ _).trans (View.set_slice_whole _ _)))
  · exact Ring.slots3_join (ℓ := l1M.view.loc (c : Thread nD τ)) (fun s => (layA s).set) layA_apart layA_all _ _ _
      (held_congr ((View.set_reshape _ _).trans (View.set_slice_whole _ _)))
      (held_congr ((View.set_reshape _ _).trans (View.set_slice_whole _ _)))
      (held_congr ((View.set_reshape _ _).trans (View.set_slice_whole _ _)))
  · exact Ring.slots3_join (ℓ := l2M.view.loc (c : Thread nD τ)) (fun s => (layB s).set) layB_apart layB_all _ _ _
      (held_congr ((View.set_reshape _ _).trans (View.set_slice_whole _ _)))
      (held_congr ((View.set_reshape _ _).trans (View.set_slice_whole _ _)))
      (held_congr ((View.set_reshape _ _).trans (View.set_slice_whole _ _)))
  · exact Ring.slots3_join (ℓ := l3M.view.loc (c : Thread nD τ)) (fun s => (layB s).set) layB_apart layB_all _ _ _
      (held_congr ((View.set_reshape _ _).trans (View.set_slice_whole _ _)))
      (held_congr ((View.set_reshape _ _).trans (View.set_slice_whole _ _)))
      (held_congr ((View.set_reshape _ _).trans (View.set_slice_whole _ _)))

variable (m : (ℓ : Loc nD τ sig) → Buf (Elt F) ℓ)

/-- A slot holding what landed in it is a slot. -/
theorem slot_of_landed (ρ : Fin 4) (s : Fin 3) (c : Dev nD) : rcvPay m ρ s c ⊢ slotAny ρ s c := by
  have h {sh : Shape} (M : Memref sig .tc .vmem sh .bf16) (X : sh.Idx → Elt F .bf16) :
      (owns (c : Thread nD τ) M fullShare X : sProp 𝕄) ⊢ anyOf c M := by
    unfold owns anyOf
    iintro ⟨%f, -, H⟩
    iexists f; iexact H
  unfold rcvPay slotAny
  fin_cases ρ <;> exact h _ _

theorem land_of_landed (ρ : Fin 4) (c : Dev nD) : iprop(rcvPay m ρ 0 c ∗ rcvPay m ρ 1 c ∗ rcvPay m ρ 2 c) ⊢ landAny (F := F) ρ c := by
  iintro ⟨H0, H1, H2⟩
  iapply (land_of_slots ρ c)
  unfold slots
  isplitl [H0]; · iapply (slot_of_landed m ρ 0 c); iexact H0
  isplitl [H1]; · iapply (slot_of_landed m ρ 1 c); iexact H1
  iapply (slot_of_landed m ρ 2 c); iexact H2

/-! ## The cells close -/

variable (K : Dev nD × Cell → ℕ)

/-- A cell none of whose duties lies at `R` or later, at round `R`: its counter is zero, and the device's again. -/
theorem close_cell (c : Dev nD) (x : Cell) (R : ℕ) (h : ∀ r, R ≤ r → dutC x r = ∅) :
    iprop(records m K ∗ atPos ER (cell c x) R ∅ 0) ⊢ (|={Set.univ}=> semVal (cell c x) 0 : sProp 𝕄) := by
  iintro ⟨HR, Hat⟩
  iapply (Rounds.cell_close ER (Rd m) (Set.mem_univ (K (c, x))) (fun h => h) (R := R) (fun r hr => by rw [duties_cell]; exact h r hr)) $$ [HR Hat]
  isplitl [HR]; · iapply (inv_at m K c x); iexact HR
  iexact Hat

theorem close_bar (c : Dev nD) : records m K ⊢ atPos ER (cell c .bar) 1 ∅ 0 -∗ |={Set.univ}=> semVal (cell c .bar) 0 := by
  iintro HR Hat
  iapply (close_cell m K c .bar 1 fun r hr => if_neg (by omega))
  isplitl [HR] <;> iassumption
theorem close_snd (c : Dev nD) (ρ : Fin 4) : records m K ⊢ sat ρ 3 c -∗ |={Set.univ}=> semVal (cell c (.snd ρ)) 0 := by
  unfold sat
  iintro HR ⟨Hat, -⟩
  iapply (close_cell m K c (.snd ρ) 3 fun r hr => if_neg (by omega))
  isplitl [HR] <;> iassumption
theorem close_rcv (c : Dev nD) (ρ : Fin 4) (s : Fin 3) : records m K ⊢ rdone ρ s c -∗ |={Set.univ}=> semVal (cell c (.rcv ρ s)) 0 := by
  unfold rdone
  iintro HR Hat
  iapply (close_cell m K c (.rcv ρ s) 1 fun r hr => if_neg (by omega))
  isplitl [HR] <;> iassumption

end Cert.KernelIdeal.Moe

end
-- ==== Proof.KernelIdeal.Deal.lean ====
/-
What a launch deals out: the cells' invariants shared by all, and to each device its positions, the tokens of the credits
it raises on its neighbours, and the credits it waits for.
-/
module

public import proofs.«01_k».proof.Proof.KernelIdeal.Slots
public import Idealize.ShloMosaic.Lib.Pipeline.Kit

@[expose] public section

set_option backward.proofsInPublic true

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells and the tokens minted at launch -/

theorem csem_inj {x y : Cell} (h : csem x = csem y) : x = y :=
  Option.some.inj ((kind_csem x).symm.trans ((congrArg kind h).trans (kind_csem y)))

theorem kcell_injective : Function.Injective (kcell : Dev nD × Cell → GSem nD τ sig) := by
  rintro ⟨c, x⟩ ⟨c', x'⟩ h
  have h1 : c = c' := congrArg (fun g : GSem nD τ sig => g.1.1) h
  have h2 : x = x' := csem_inj (congrArg Prod.snd h)
  subst h1 h2; rfl
def ringCells : Finset (GSem nD τ sig) := Finset.univ.map ⟨kcell, kcell_injective⟩

/-- A duty of a device's cell, and the ring along which the device that pays it reaches the cell (none: the device itself). -/
abbrev Duty : Type := (Cell × ℕ × Fin 4) × Option (Fin 4)

def dutyList : List Duty :=
  [((.bar, 0, 1), some 0), ((.bar, 0, 0), some 1), ((.bar, 0, 3), some 2), ((.bar, 0, 2), some 3),
   ((.snd 0, 0, 0), none), ((.snd 0, 1, 0), none), ((.snd 0, 2, 0), none), ((.snd 1, 0, 0), none), ((.snd 1, 1, 0), none), ((.snd 1, 2, 0), none),
   ((.snd 2, 0, 0), none), ((.snd 2, 1, 0), none), ((.snd 2, 2, 0), none), ((.snd 3, 0, 0), none), ((.snd 3, 1, 0), none), ((.snd 3, 2, 0), none),
   ((.rcv 0 0, 0, 0), some 0), ((.rcv 0 1, 0, 0), some 0), ((.rcv 0 2, 0, 0), some 0), ((.rcv 1 0, 0, 0), some 1), ((.rcv 1 1, 0, 0), some 1), ((.rcv 1 2, 0, 0), some 1),
   ((.rcv 2 0, 0, 0), some 2), ((.rcv 2 1, 0, 0), some 2), ((.rcv 2 2, 0, 0), some 2), ((.rcv 3 0, 0, 0), some 3), ((.rcv 3 1, 0, 0), some 3), ((.rcv 3 2, 0, 0), some 3)]

def duty (i : Fin 28) : Duty := dutyList[i.val]'(i.isLt)

set_option maxRecDepth 8000 in
theorem duty_inj : ∀ i j : Fin 28, (duty i).1 = (duty j).1 → i = j := by decide

abbrev tokOf (ci : Dev nD × Fin 28) : GSem nD τ sig × ℕ × Fin 4 := (cell ci.1 (duty ci.2).1.1, (duty ci.2).1.2.1, (duty ci.2).1.2.2)
theorem tokOf_injective : Function.Injective tokOf := by
  rintro ⟨c, i⟩ ⟨c', i'⟩ h
  have h0 := kcell_injective (a₁ := (c, (duty i).1.1)) (a₂ := (c', (duty i').1.1)) (congrArg Prod.fst h)
  have h1 : c = c' := congrArg Prod.fst h0
  have h2 : (duty i).1 = (duty i').1 := Prod.ext (congrArg Prod.snd h0) (congrArg (fun y : GSem nD τ sig × ℕ × Fin 4 => y.2) h)
  have h3 : i = i' := duty_inj i i' h2
  subst h1 h3; rfl
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The device at the far end of ring `ρ`, as a rearrangement of the devices. -/
def nbE (ρ : Fin 4) : Dev nD ≃ Dev nD := ⟨nb ρ, nb (opp ρ), nb_opp_nb ρ, nb_nb_opp ρ⟩
def payer : Option (Fin 4) → (Dev nD ≃ Dev nD)
  | none => Equiv.refl _
  | some ρ => nbE ρ

/-- The token of duty `i` of device `c`'s cells. -/
def tok (i : Fin 28) (c : Dev nD) : sProp 𝕄 := dutyTok ER (cell c (duty i).1.1) (duty i).1.2.1 (duty i).1.2.2

def G (c : Dev nD) : sProp 𝕄 :=
  iprop((bigSep Finset.univ fun x : Cell => roundState ER (Rd m) (cell c x) 0)
    ∗ (bigSep Finset.univ fun x : Cell => iprop(atPos ER (cell c x) 0 ∅ 0 ∗ reached ER (cell c x) 0)) ∗ bigSep Finset.univ fun i => tok (F := F) i c)

/-- What a device starts from, at the names the invariants got. -/
def own₀ (c : Dev nD) : sProp 𝕄 :=
  iprop((bigSep Finset.univ fun x : Cell => atPos ER (cell c x) 0 ∅ 0) ∗ (bigSep Finset.univ fun x : Cell => reached ER (cell c x) 0)
    ∗ bigSep Finset.univ fun i => tok (F := F) i (payer (duty i).2 c))

def G' (c : Dev nD) : sProp 𝕄 :=
  iprop((∃ K : Dev nD × Cell → ℕ, (bigSep Finset.univ fun ck : Dev nD × Cell => cellInv ER (Rd m) (K ck) (kcell ck))
    ∗ bigSep Finset.univ fun ck : Dev nD × Cell => reached ER (kcell ck) 0) ∗ own₀ (F := F) c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun x : Cell => Φ (cell c x) := by
    unfold ringCells; rw [bigSep_map, bigSep_univ_prod]; rfl
  have hT : bigSep ringToks (fun x => (dutyTok ER x.1 x.2.1 x.2.2 : sProp 𝕄)) = bigSep Finset.univ fun c : Dev nD => bigSep Finset.univ fun i => tok (F := F) i c := by
    unfold ringToks; rw [bigSep_map, bigSep_univ_prod]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The kernel's own semaphores: four sends, twelve receives. -/
abbrev osem : Fin 16 → SemLoc sig := fun i => .dma (⟨5 + i.val, by have := i.isLt; show _ < 21; omega⟩ : Fin 21)

theorem ownSemFacts : Pipeline.OwnSemFacts cfg0.spec osem := by decide

def ownCells : List Cell :=
  [.snd 0, .snd 1, .snd 2, .snd 3, .rcv 0 0, .rcv 0 1, .rcv 0 2, .rcv 1 0, .rcv 1 1, .rcv 1 2,
   .rcv 2 0, .rcv 2 1, .rcv 2 2, .rcv 3 0, .rcv 3 1, .rcv 3 2]

set_option maxRecDepth 8000 in
theorem ownSems0_eq (c : Dev nD) : (Pipeline.ownSems0 (Ix := Unit) (Name := ℕ) (U := UU) (Lvl := ℕ) (Val := Elt F) (τ := τ) osem c : sProp 𝕄)
    = bigSepL ownCells fun x => semVal (cell c x) 0 := by
  rw [Pipeline.ownSems0_eq_of_list c osem [0, 1, 2, 3, 4, 5, 6, 7, 8, 9, 10, 11, 12, 13, 14, 15] (by decide) (by decide)]; rfl
/-- The runtime's barrier is the one semaphore that outlives the launch. -/
theorem unscopedSems0_eq (c : Dev nD) : (unscopedSems0 c : sProp 𝕄) = semVal (cell c .bar) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun x : Cell => semVal (cell c x) 0 : sProp 𝕄) := by
  rw [ownSems0_eq, unscopedSems0_eq, bigSep_univ_eq_bigSepL (Cell.bar :: ownCells) (by decide) (by decide)]
  show iprop(bigSepL ownCells (fun x => semVal (cell c x) 0) ∗ semVal (cell c .bar) 0) ⊢ (iprop(semVal (cell c .bar) 0 ∗ bigSepL ownCells fun x => semVal (cell c x) 0) : sProp 𝕄)
  iintro ⟨HS, HB⟩
  isplitl [HB] <;> iassumption

/-! ## The invariants, and the deal -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun x : Cell => iprop(∃ κ : ℕ, cellInv ER (Rd m) κ (cell c x)))
          ∗ (bigSep Finset.univ fun x : Cell => iprop(atPos ER (cell c x) 0 ∅ 0 ∗ reached ER (cell c x) 0)) ∗ bigSep Finset.univ fun i => tok (F := F) i c) := by
  unfold G
  iintro ⟨Hos, Hus, Hst, Hat, Htok⟩
  ihave Hv := (sems0_eq (F := F) c) $$ [Hos Hus]
  · isplitl [Hos] <;> iassumption
  imod (show iprop((bigSep Finset.univ fun x : Cell => semVal (cell c x) 0) ∗ bigSep Finset.univ fun x : Cell => roundState ER (Rd m) (cell c x) 0)
      ⊢ (|={Set.univ}=> bigSep Finset.univ fun x : Cell => iprop(∃ κ : ℕ, cellInv ER (Rd m) κ (cell c x)) : sProp 𝕄) from by
        rw [← bigSep_sep']
        exact (bigSep_mono fun x _ => (Rounds.body_intro ER (Rd m) (cell c x)).trans inv_alloc).trans (bigSep_fupd _ _)) $$ [Hv Hst] with Hinv
  · isplitl [Hv] <;> iassumption
  imodintro
  isplitl [Hinv]; · iexact Hinv
  isplitl [Hat]; · iexact Hat
  iexact Htok

/-- Devices first or duties first. -/
theorem swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun p : I × J => Φ p.1 p.2), bigSep_univ_equiv (Equiv.prodComm J I) fun p : I × J => Φ p.1 p.2, bigSep_univ_prod]; rfl

/-- Each duty's token goes to the device that pays it. -/
theorem toks_dealt : (bigSep Finset.univ fun c : Dev nD => bigSep Finset.univ fun i => (tok (F := F) i c : sProp 𝕄))
    = bigSep Finset.univ fun c : Dev nD => bigSep Finset.univ fun i => tok (F := F) i (payer (duty i).2 c) := by
  rw [swap, swap fun (c : Dev nD) i => tok (F := F) i (payer (duty i).2 c)]
  exact bigSep_congr fun i _ => bigSep_univ_equiv (payer (duty i).2) fun c => tok (F := F) i c

theorem with_shared {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : Cell => iprop(∃ κ : ℕ, cellInv ER (Rd m) κ (cell c x)))
          ∗ (bigSep Finset.univ fun x : Cell => iprop(atPos ER (cell c x) 0 ∅ 0 ∗ reached ER (cell c x) 0)) ∗ bigSep Finset.univ fun i => tok (F := F) i c) : sProp 𝕄)
      ⊢ bigSep Finset.univ (G' m) := by
  rw [bigSep_sep', bigSep_sep', ← bigSep_univ_prod (fun ck : Dev nD × Cell => iprop(∃ κ : ℕ, cellInv ER (Rd m) κ (kcell ck))),
    bigSep_congr (s := Finset.univ) (fun (c : Dev nD) _ => bigSep_sep' Finset.univ (fun x : Cell => (atPos ER (cell c x) 0 ∅ 0 : sProp 𝕄)) (fun x => reached ER (cell c x) 0)),
    bigSep_sep', toks_dealt]
  iintro ⟨HI, ⟨Hat, #HR⟩, Htok⟩
  ihave HK := (BI.bigSep_exists_pi Finset.univ (fun (ck : Dev nD × Cell) (κ : ℕ) => (cellInv ER (Rd m) κ (kcell ck) : sProp 𝕄))) $$ HI
  icases HK with ⟨%K, #HI⟩
  iapply (with_shared (R := iprop((bigSep Finset.univ fun ck : Dev nD × Cell => (cellInv ER (Rd m) (K ck) (kcell ck) : sProp 𝕄))
      ∗ bigSep Finset.univ fun ck : Dev nD × Cell => (reached ER (kcell ck) 0 : sProp 𝕄)))
    (Φ := fun c => own₀ (F := F) c) fun c _ => by
      unfold G'
      iintro ⟨HR, HO⟩
      isplitl [HR]
      · iexists K; iexact HR
      iexact HO)
  isplitr
  · isplitr; · iexact HI
    iapply (Entails.of_eq (bigSep_univ_prod fun ck : Dev nD × Cell => (reached ER (kcell ck) 0 : sProp 𝕄)).symm); iexact HR
  · unfold own₀; rw [bigSep_sep', bigSep_sep']
    isplitl [Hat]; · iexact Hat
    isplitr; · iexact HR
    iexact Htok

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits a device waits for -/

/-- What a device's cell receives in all. -/
def due : Cell → ℕ
  | .bar => 4
  | .snd _ => 0
  | .rcv ρ _ => amt ρ

theorem owed_sum (c : Dev nD) (x : Cell) : ∀ l : List (Cell × Fin 4),
    ∑ d : Dev nD, owedL d l (cell c x) () = (l.map fun e => if e.1 = x then amtC e.1 else 0).sum
  | [] => Finset.sum_eq_zero fun d _ => rfl
  | e :: l => by
    rw [List.map_cons, List.sum_cons, ← owed_sum c x l, Nat.add_comm,
      show (∑ d : Dev nD, owedL d (e :: l) (cell c x) ()) = ∑ d : Dev nD, (owedL d l (cell c x) () + if d = nb (opp e.2) c then (if e.1 = x then amtC e.1 else 0) else 0) from ?_,
      Finset.sum_add_distrib, Finset.sum_ite_eq' Finset.univ (nb (opp e.2) c) fun _ => _, if_pos (Finset.mem_univ _)]
    refine Finset.sum_congr rfl fun d _ => ?_
    show (owedL d l + tallyAt (cell (nb e.2 d) e.1) () (amtC e.1)) (cell c x) () = _
    rw [Pi.add_apply, Finsupp.add_apply, tallyAt_apply]
    congr 1
    by_cases h1 : d = nb (opp e.2) c
    · subst h1
      rw [if_pos rfl, nb_nb_opp]
      by_cases h2 : e.1 = x
      · rw [if_pos h2, if_pos ⟨by rw [h2], rfl⟩]
      · rw [if_neg h2, if_neg fun h => h2 (csem_inj (congrArg Prod.snd h.1)).symm]
    · rw [if_neg h1, if_neg fun h => h1 (by rw [show c = nb e.2 d from congrArg (fun g : GSem nD τ sig => g.1.1) h.1, nb_opp_nb])]

theorem sched_due (x : Cell) : (sched.map fun e => if e.1 = x then amtC e.1 else 0).sum = due x := by
  cases x with
  | bar => simp [sched, due, amtC]
  | snd ρ => simp [sched, due]
  | rcv ρ s => fin_cases ρ <;> fin_cases s <;> simp [sched, due, amtC]

theorem launch_cell (c : Dev nD) (x : Cell) :
    tallyOn (cell c x) (launchCredit (Pipeline.owing fun d => owedL d sched) 0 (cell c x)) = (tallyAt (cell c x) () (due x) : CellTallies nD τ sig Unit) := by
  unfold tallyAt; refine congrArg _ (Finsupp.ext fun u => ?_); cases u
  rw [Pipeline.launchCredit_owing, Finsupp.single_eq_same, owed_sum, sched_due]

theorem creds (c : Dev nD) :
    (Pipeline.launchCred (fun d => owedL d sched) c : sProp 𝕄) ⊢ bigSep Finset.univ fun x : Cell => cred (tallyAt (cell c x) () (due x)) := by
  unfold Pipeline.launchCred
  have h : (bigSep Finset.univ fun x : Cell => (cred (tallyAt (cell c x) () (due x)) : sProp 𝕄))
      = bigSep (Finset.univ.map ⟨csem, fun _ _ => csem_inj⟩) fun sm : SemLoc sig =>
          cred (tallyOn ((c.tc : Thread nD τ), sm) (launchCredit (Pipeline.owing fun d => owedL d sched) 0 ((c.tc : Thread nD τ), sm))) := by
    rw [bigSep_map]
    exact bigSep_congr fun x _ => congrArg _ (launch_cell c x).symm
  rw [h]
  exact bigSep_subset (Finset.subset_univ _)

end Cert.KernelIdeal.Moe

end
-- ==== Proof.KernelIdeal.Run.lean ====
/-
The launch on all sixteen devices: every run ends, the arguments unchanged, every counter at zero, each device's result as
computed.
-/
module

public import proofs.«01_k».proof.Proof.KernelIdeal.Body
public import proofs.«01_k».proof.Proof.KernelIdeal.Deal
public import proofs.«01_k».proof.Proof.Gen.KernelIdeal.Points
public import Idealize.ShloMosaic.Lib.Pipeline.CollectiveSegs

@[expose] public section

set_option backward.proofsInPublic true

noncomputable section

namespace Cert.KernelIdeal.Moe

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

def s₀ : MemSt nD τ sig (Elt F) := ⟨m, fun _ => 0, ρ⟩

/-! ## The pipeline's data -/

theorem fin_one (t : Fin cfg0.N) : t = t0_0 := fin_N0 t

/-- What a device's body starts from, beside its buffers, -/
def start (c : Dev nD) : sProp 𝕄 :=
  iprop(G' m c ∗ (bigSep Finset.univ fun x : Cell => cred (tallyAt (cell c x) () (due x))) ∗ levAts L lv)
def Φ₀ (c : Dev nD) : sProp 𝕄 := iprop(start m c ∗ Pipeline.scopedRest cfg0.spec c)
/-- and what it ends with: every counter at zero. -/
def Φ₁ (c : Dev nD) : sProp 𝕄 := iprop(unscopedSems0 c ∗ Pipeline.ownSems0 osem c ∗ Pipeline.scopedRest cfg0.spec c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xs m c
    | ⟨1, _⟩ => rws m c
    | ⟨2, _⟩ => ids m c
    | ⟨3, _⟩ => ews m c
    | ⟨4, _⟩ => outAt m c
  Φ t := match t with
    | ⟨0, _⟩ => Φ₀ m c
    | ⟨_ + 1, _⟩ => Φ₁ (F := F) c
  q _ := fullShare
  owed t := match t with
    | ⟨0, _⟩ => owedL c sched
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body -/

def bodyPre (c : Dev nD) : sProp 𝕄 :=
  iprop(Φ₀ m c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ (F := F) c ∗ (dats m ρ 0 c).owesAt () t0_0.succ
    ∗ stg c cc0_stg0_0 (xs m c) ∗ stg c cc0_stg1_0 (rws m c) ∗ stg c cc0_stg2_0 (ids m c) ∗ stg c cc0_stg3_0 (ews m c) ∗ stg c cc0_stg4_0 (outAt m c))

/-- A device's positions, one by one, each send cell's with its round reached. -/
theorem own₀_split (c : Dev nD) : own₀ (F := F) c ⊢ iprop(
    (atPos ER (cell c .bar) 0 ∅ 0 ∗ sat (F := F) 0 0 c ∗ sat (F := F) 1 0 c ∗ sat (F := F) 2 0 c ∗ sat (F := F) 3 0 c)
    ∗ (atPos ER (cell c (.rcv 0 0)) 0 ∅ 0 ∗ atPos ER (cell c (.rcv 0 1)) 0 ∅ 0 ∗ atPos ER (cell c (.rcv 0 2)) 0 ∅ 0 ∗ atPos ER (cell c (.rcv 1 0)) 0 ∅ 0 ∗ atPos ER (cell c (.rcv 1 1)) 0 ∅ 0 ∗ atPos ER (cell c (.rcv 1 2)) 0 ∅ 0 ∗ atPos ER (cell c (.rcv 2 0)) 0 ∅ 0 ∗ atPos ER (cell c (.rcv 2 1)) 0 ∅ 0 ∗ atPos ER (cell c (.rcv 2 2)) 0 ∅ 0 ∗ atPos ER (cell c (.rcv 3 0)) 0 ∅ 0 ∗ atPos ER (cell c (.rcv 3 1)) 0 ∅ 0 ∗ atPos ER (cell c (.rcv 3 2)) 0 ∅ 0)
    ∗ (dutyTok ER (cell (nb 0 c) .bar) 0 (opp 0) ∗ dutyTok ER (cell (nb 1 c) .bar) 0 (opp 1) ∗ dutyTok ER (cell (nb 2 c) .bar) 0 (opp 2) ∗ dutyTok ER (cell (nb 3 c) .bar) 0 (opp 3))
    ∗ (stepTok (F := F) 0 0 c ∗ stepTok (F := F) 0 1 c ∗ stepTok (F := F) 0 2 c ∗ stepTok (F := F) 1 0 c ∗ stepTok (F := F) 1 1 c ∗ stepTok (F := F) 1 2 c ∗ stepTok (F := F) 2 0 c ∗ stepTok (F := F) 2 1 c ∗ stepTok (F := F) 2 2 c ∗ stepTok (F := F) 3 0 c ∗ stepTok (F := F) 3 1 c ∗ stepTok (F := F) 3 2 c)) := by
  have hA : bigSepL cellList (fun x => (atPos ER (cell c x) 0 ∅ 0 : sProp 𝕄)) = iprop(atPos ER (cell c .bar) 0 ∅ 0 ∗ atPos ER (cell c (.snd 0)) 0 ∅ 0 ∗ atPos ER (cell c (.snd 1)) 0 ∅ 0 ∗ atPos ER (cell c (.snd 2)) 0 ∅ 0 ∗ atPos ER (cell c (.snd 3)) 0 ∅ 0 ∗ atPos ER (cell c (.rcv 0 0)) 0 ∅ 0 ∗ atPos ER (cell c (.rcv 0 1)) 0 ∅ 0 ∗ atPos ER (cell c (.rcv 0 2)) 0 ∅ 0 ∗ atPos ER (cell c (.rcv 1 0)) 0 ∅ 0 ∗ atPos ER (cell c (.rcv 1 1)) 0 ∅ 0 ∗ atPos ER (cell c (.rcv 1 2)) 0 ∅ 0 ∗ atPos ER (cell c (.rcv 2 0)) 0 ∅ 0 ∗ atPos ER (cell c (.rcv 2 1)) 0 ∅ 0 ∗ atPos ER (cell c (.rcv 2 2)) 0 ∅ 0 ∗ atPos ER (cell c (.rcv 3 0)) 0 ∅ 0 ∗ atPos ER (cell c (.rcv 3 1)) 0 ∅ 0 ∗ atPos ER (cell c (.rcv 3 2)) 0 ∅ 0) := rfl
  have hR : bigSepL cellList (fun x => (reached ER (cell c x) 0 : sProp 𝕄)) = iprop(reached ER (cell c .bar) 0 ∗ reached ER (cell c (.snd 0)) 0 ∗ reached ER (cell c (.snd 1)) 0 ∗ reached ER (cell c (.snd 2)) 0 ∗ reached ER (cell c (.snd 3)) 0 ∗ reached ER (cell c (.rcv 0 0)) 0 ∗ reached ER (cell c (.rcv 0 1)) 0 ∗ reached ER (cell c (.rcv 0 2)) 0 ∗ reached ER (cell c (.rcv 1 0)) 0 ∗ reached ER (cell c (.rcv 1 1)) 0 ∗ reached ER (cell c (.rcv 1 2)) 0 ∗ reached ER (cell c (.rcv 2 0)) 0 ∗ reached ER (cell c (.rcv 2 1)) 0 ∗ reached ER (cell c (.rcv 2 2)) 0 ∗ reached ER (cell c (.rcv 3 0)) 0 ∗ reached ER (cell c (.rcv 3 1)) 0 ∗ reached ER (cell c (.rcv 3 2)) 0) := rfl
  have hT : bigSepL (List.finRange 28) (fun i => tok (F := F) i (payer (duty i).2 c)) = iprop(dutyTok ER (cell (nb 0 c) .bar) 0 (opp 0) ∗ dutyTok ER (cell (nb 1 c) .bar) 0 (opp 1) ∗ dutyTok ER (cell (nb 2 c) .bar) 0 (opp 2) ∗ dutyTok ER (cell (nb 3 c) .bar) 0 (opp 3) ∗ dutyTok ER (cell c (.snd 0)) (0 : Fin 3).val 0 ∗ dutyTok ER (cell c (.snd 0)) (1 : Fin 3).val 0 ∗ dutyTok ER (cell c (.snd 0)) (2 : Fin 3).val 0 ∗ dutyTok ER (cell c (.snd 1)) (0 : Fin 3).val 0 ∗ dutyTok ER (cell c (.snd 1)) (1 : Fin 3).val 0 ∗ dutyTok ER (cell c (.snd 1)) (2 : Fin 3).val 0 ∗ dutyTok ER (cell c (.snd 2)) (0 : Fin 3).val 0 ∗ dutyTok ER (cell c (.snd 2)) (1 : Fin 3).val 0 ∗ dutyTok ER (cell c (.snd 2)) (2 : Fin 3).val 0 ∗ dutyTok ER (cell c (.snd 3)) (0 : Fin 3).val 0 ∗ dutyTok ER (cell c (.snd 3)) (1 : Fin 3).val 0 ∗ dutyTok ER (cell c (.snd 3)) (2 : Fin 3).val 0 ∗ dutyTok ER (cell (nb 0 c) (.rcv 0 0)) 0 0 ∗ dutyTok ER (cell (nb 0 c) (.rcv 0 1)) 0 0 ∗ dutyTok ER (cell (nb 0 c) (.rcv 0 2)) 0 0 ∗ dutyTok ER (cell (nb 1 c) (.rcv 1 0)) 0 0 ∗ dutyTok ER (cell (nb 1 c) (.rcv 1 1)) 0 0 ∗ dutyTok ER (cell (nb 1 c) (.rcv 1 2)) 0 0 ∗ dutyTok ER (cell (nb 2 c) (.rcv 2 0)) 0 0 ∗ dutyTok ER (cell (nb 2 c) (.rcv 2 1)) 0 0 ∗ dutyTok ER (cell (nb 2 c) (.rcv 2 2)) 0 0 ∗ dutyTok ER (cell (nb 3 c) (.rcv 3 0)) 0 0 ∗ dutyTok ER (cell (nb 3 c) (.rcv 3 1)) 0 0 ∗ dutyTok ER (cell (nb 3 c) (.rcv 3 2)) 0 0) := rfl
  unfold own₀
  rw [bigSep_univ_eq_bigSepL cellList (by decide) (by decide), bigSep_univ_eq_bigSepL cellList (by decide) (by decide),
    bigSep_univ_eq_bigSepL (List.finRange 28) (by decide) (by decide), hA, hR, hT]
  unfold sat stepTok
  iintro ⟨⟨A0, A1, A2, A3, A4, A5, A6, A7, A8, A9, A10, A11, A12, A13, A14, A15, A16⟩, ⟨-, R1, R2, R3, R4, -⟩, ⟨B0, B1, B2, B3, S00, S01, S02, S10, S11, S12, S20, S21, S22, S30, S31, S32, V00, V01, V02, V10, V11, V12, V20, V21, V22, V30, V31, V32⟩⟩
  isplitl [A0 A1 A2 A3 A4 R1 R2 R3 R4]
  · iframe
  isplitl [A5 A6 A7 A8 A9 A10 A11 A12 A13 A14 A15 A16]
  · iframe
  isplitl [B0 B1 B2 B3]
  · iframe
  iframe

/-- The credits it waits for join the positions of its receive cells. -/
theorem creds_split (c : Dev nD) : iprop((bigSep Finset.univ fun x : Cell => cred (tallyAt (cell c x) () (due x)))
    ∗ (atPos ER (cell c (.rcv 0 0)) 0 ∅ 0 ∗ atPos ER (cell c (.rcv 0 1)) 0 ∅ 0 ∗ atPos ER (cell c (.rcv 0 2)) 0 ∅ 0 ∗ atPos ER (cell c (.rcv 1 0)) 0 ∅ 0 ∗ atPos ER (cell c (.rcv 1 1)) 0 ∅ 0 ∗ atPos ER (cell c (.rcv 1 2)) 0 ∅ 0 ∗ atPos ER (cell c (.rcv 2 0)) 0 ∅ 0 ∗ atPos ER (cell c (.rcv 2 1)) 0 ∅ 0 ∗ atPos ER (cell c (.rcv 2 2)) 0 ∅ 0 ∗ atPos ER (cell c (.rcv 3 0)) 0 ∅ 0 ∗ atPos ER (cell c (.rcv 3 1)) 0 ∅ 0 ∗ atPos ER (cell c (.rcv 3 2)) 0 ∅ 0)) ⊢ (iprop(cred (tallyAt (cell c .bar) () 4) ∗ rin (F := F) 0 0 c ∗ rin (F := F) 0 1 c ∗ rin (F := F) 0 2 c ∗ rin (F := F) 1 0 c ∗ rin (F := F) 1 1 c ∗ rin (F := F) 1 2 c ∗ rin (F := F) 2 0 c ∗ rin (F := F) 2 1 c ∗ rin (F := F) 2 2 c ∗ rin (F := F) 3 0 c ∗ rin (F := F) 3 1 c ∗ rin (F := F) 3 2 c) : sProp 𝕄) := by
  have hC : bigSepL cellList (fun x => (cred (tallyAt (cell c x) () (due x)) : sProp 𝕄)) = iprop(cred (tallyAt (cell c .bar) () 4) ∗ cred (tallyAt (cell c (.snd 0)) () 0) ∗ cred (tallyAt (cell c (.snd 1)) () 0) ∗ cred (tallyAt (cell c (.snd 2)) () 0) ∗ cred (tallyAt (cell c (.snd 3)) () 0) ∗ cred (tallyAt (cell c (.rcv 0 0)) () (amt 0)) ∗ cred (tallyAt (cell c (.rcv 0 1)) () (amt 0)) ∗ cred (tallyAt (cell c (.rcv 0 2)) () (amt 0)) ∗ cred (tallyAt (cell c (.rcv 1 0)) () (amt 1)) ∗ cred (tallyAt (cell c (.rcv 1 1)) () (amt 1)) ∗ cred (tallyAt (cell c (.rcv 1 2)) () (amt 1)) ∗ cred (tallyAt (cell c (.rcv 2 0)) () (amt 2)) ∗ cred (tallyAt (cell c (.rcv 2 1)) () (amt 2)) ∗ cred (tallyAt (cell c (.rcv 2 2)) () (amt 2)) ∗ cred (tallyAt (cell c (.rcv 3 0)) () (amt 3)) ∗ cred (tallyAt (cell c (.rcv 3 1)) () (amt 3)) ∗ cred (tallyAt (cell c (.rcv 3 2)) () (amt 3))) := rfl
  rw [bigSep_univ_eq_bigSepL cellList (by decide) (by decide), hC]
  unfold rin
  iintro ⟨⟨C0, -, -, -, -, C5, C6, C7, C8, C9, C10, C11, C12, C13, C14, C15, C16⟩, ⟨A5, A6, A7, A8, A9, A10, A11, A12, A13, A14, A15, A16⟩⟩
  iframe

/-- The scratch buffers, the landing buffers among them. -/
theorem scratch_eq (c : Dev nD) : (Pipeline.scopedRest (Ix := Unit) (Name := ℕ) (U := UU) (Lvl := ℕ) (Val := Elt F) cfg0.spec c : sProp 𝕄)
    = iprop((∃ f, gaM.view.loc (c : Thread nD τ) ↦{fullShare} f) ∗ (∃ f, apM.view.loc (c : Thread nD τ) ↦{fullShare} f) ∗ (∃ f, amM.view.loc (c : Thread nD τ) ↦{fullShare} f)
      ∗ (∃ f, s0M.view.loc (c : Thread nD τ) ↦{fullShare} f) ∗ (∃ f, s1M.view.loc (c : Thread nD τ) ↦{fullShare} f) ∗ (∃ f, s2M.view.loc (c : Thread nD τ) ↦{fullShare} f) ∗ (∃ f, s3M.view.loc (c : Thread nD τ) ↦{fullShare} f)
      ∗ landAny 0 c ∗ landAny 1 c ∗ landAny 2 c ∗ landAny 3 c) := scopedRest0_eq c

/-- All counters at zero: the barrier's is the runtime's, the other sixteen the kernel's. -/
theorem all_closed (K : Dev nD × Cell → ℕ) (c : Dev nD) : records m K ⊢ atPos ER (cell c .bar) 1 ∅ 0 -∗ sat (F := F) 0 3 c -∗ sat (F := F) 1 3 c -∗ sat (F := F) 2 3 c -∗ sat (F := F) 3 3 c
    -∗ rdone (F := F) 0 0 c -∗ rdone (F := F) 0 1 c -∗ rdone (F := F) 0 2 c -∗ rdone (F := F) 1 0 c -∗ rdone (F := F) 1 1 c -∗ rdone (F := F) 1 2 c -∗ rdone (F := F) 2 0 c -∗ rdone (F := F) 2 1 c -∗ rdone (F := F) 2 2 c -∗ rdone (F := F) 3 0 c -∗ rdone (F := F) 3 1 c -∗ rdone (F := F) 3 2 c -∗ |={Set.univ}=> (unscopedSems0 c ∗ Pipeline.ownSems0 (τ := τ) osem c) := by
  have hO : bigSepL ownCells (fun x => (semVal (cell c x) 0 : sProp 𝕄)) = iprop(semVal (cell c (.snd 0)) 0 ∗ semVal (cell c (.snd 1)) 0 ∗ semVal (cell c (.snd 2)) 0 ∗ semVal (cell c (.snd 3)) 0 ∗ semVal (cell c (.rcv 0 0)) 0 ∗ semVal (cell c (.rcv 0 1)) 0 ∗ semVal (cell c (.rcv 0 2)) 0 ∗ semVal (cell c (.rcv 1 0)) 0 ∗ semVal (cell c (.rcv 1 1)) 0 ∗ semVal (cell c (.rcv 1 2)) 0 ∗ semVal (cell c (.rcv 2 0)) 0 ∗ semVal (cell c (.rcv 2 1)) 0 ∗ semVal (cell c (.rcv 2 2)) 0 ∗ semVal (cell c (.rcv 3 0)) 0 ∗ semVal (cell c (.rcv 3 1)) 0 ∗ semVal (cell c (.rcv 3 2)) 0) := rfl
  rw [ownSems0_eq, unscopedSems0_eq, hO]
  iintro #HR A0 A1 A2 A3 A4 D00 D01 D02 D10 D11 D12 D20 D21 D22 D30 D31 D32
  imod (close_bar m K c) $$ HR A0 with C0
  imod (close_snd m K c 0) $$ HR A1 with C1
  imod (close_snd m K c 1) $$ HR A2 with C2
  imod (close_snd m K c 2) $$ HR A3 with C3
  imod (close_snd m K c 3) $$ HR A4 with C4
  imod (close_rcv m K c 0 0) $$ HR D00 with C5
  imod (close_rcv m K c 0 1) $$ HR D01 with C6
  imod (close_rcv m K c 0 2) $$ HR D02 with C7
  imod (close_rcv m K c 1 0) $$ HR D10 with C8
  imod (close_rcv m K c 1 1) $$ HR D11 with C9
  imod (close_rcv m K c 1 2) $$ HR D12 with C10
  imod (close_rcv m K c 2 0) $$ HR D20 with C11
  imod (close_rcv m K c 2 1) $$ HR D21 with C12
  imod (close_rcv m K c 2 2) $$ HR D22 with C13
  imod (close_rcv m K c 3 0) $$ HR D30 with C14
  imod (close_rcv m K c 3 1) $$ HR D31 with C15
  imod (close_rcv m K c 3 2) $$ HR D32 with C16
  imodintro
  iframe

set_option maxHeartbeats 1600000 in
theorem body_meets (c : Dev nD) :
    bodyPre m ρ c ⊢ wp frame (wpE (defs₀ (F := F)) 𝒱₀ (c : Thread nD τ) none) Set.univ (onBufs (cc0_body (F := F))) (fun _ => bodyPost m ρ c) := by
  unfold bodyPre Φ₀ start G'
  rw [scratch_eq]
  iintro ⟨⟨⟨⟨⟨%K, #HI, #HE⟩, Hown⟩, Hcr, #Hlev⟩, ⟨⟨%fg, Hg⟩, ⟨%fp, Hap⟩, ⟨%fm, Ham⟩, ⟨%f0, Hst0⟩, ⟨%f1, Hst1⟩, ⟨%f2, Hst2⟩, ⟨%f3, Hst3⟩, HL0, HL1, HL2, HL3⟩⟩,
    Ho, ⟨%d0, %v0, %hv0, Hx⟩, ⟨%d1, %v1, %hv1, Hrw⟩, ⟨%d2, %v2, %hv2, Hid⟩, ⟨%d3, %v3, %hv3, Hw⟩, ⟨%d4, %fo, %hv4, Hou⟩⟩
  have hx : v0 = xs m c := by rw [hv0]; unfold Dat.before; rw [if_pos (fetch0_0 t0_0)]; rfl
  have hrw : v1 = rws m c := by rw [hv1]; unfold Dat.before; rw [if_pos (fetch0_1 t0_0)]; rfl
  have hid : v2 = ids m c := by rw [hv2]; unfold Dat.before; rw [if_pos (fetch0_2 t0_0)]; rfl
  have hw : v3 = ews m c := by rw [hv3]; unfold Dat.before; rw [if_pos (fetch0_3 t0_0)]; rfl
  subst hx hrw hid hw
  unfold Dat.owesAt Pipeline.owesWithin
  icases Ho with ⟨%W, %hW, HO⟩
  rw [show (dats m ρ 0 c).owed t0_0.castSucc = owedL c (sched.drop 0) from rfl]
  ihave #HR := (show iprop((bigSep Finset.univ fun ck : Dev nD × Cell => cellInv ER (Rd m) (K ck) (kcell ck))
      ∗ (bigSep Finset.univ fun ck : Dev nD × Cell => reached ER (kcell ck) 0) ∗ levAts L lv) ⊢ records m K from Entails.of_eq rfl) $$ [HI HE Hlev]
  · isplitr; · iexact HI
    isplitr; · iexact HE
    iexact Hlev
  ihave Hown' := (own₀_split (F := F) c) $$ Hown
  icases Hown' with ⟨⟨HatB, Ha0, Ha1, Ha2, Ha3⟩, Hat, ⟨HB0, HB1, HB2, HB3⟩, ⟨HT00, HT01, HT02, HT10, HT11, HT12, HT20, HT21, HT22, HT30, HT31, HT32⟩⟩
  ihave Hcr' := (creds_split (F := F) c) $$ [Hcr Hat]
  · isplitl [Hcr] <;> iassumption
  icases Hcr' with ⟨HcB, HI00, HI01, HI02, HI10, HI11, HI12, HI20, HI21, HI22, HI30, HI31, HI32⟩
  ihave Hs0 := (show landAny (F := F) 1 c ⊢ slots (opp 0) c from slots_of_land 1 c) $$ HL1
  ihave Hs1 := (show landAny (F := F) 0 c ⊢ slots (opp 1) c from slots_of_land 0 c) $$ HL0
  ihave Hs2 := (show landAny (F := F) 3 c ⊢ slots (opp 2) c from slots_of_land 3 c) $$ HL3
  ihave Hs3 := (show landAny (F := F) 2 c ⊢ slots (opp 3) c from slots_of_land 2 c) $$ HL2
  iapply (wp_fupd (Fr := frame) (wpE (defs₀ (F := F)) 𝒱₀ (c : Thread nD τ) none) Set.univ (onBufs (cc0_body (F := F))) fun _ => bodyPost m ρ c)
  iapply (body_run m K c fg fp fm f0 f1 f2 f3 fo (Q := fun _ => iprop(|={Set.univ}=> bodyPost m ρ c))) $$ HR [HO] HB0 HB1 HB2 HB3 Hs0 Hs1 Hs2 Hs3 HatB HcB HT00 HT01 HT02 HT10 HT11 HT12 HT20 HT21 HT22 HT30 HT31 HT32 Ha0 Ha1 Ha2 Ha3 HI00 HI01 HI02 HI10 HI11 HI12 HI20 HI21 HI22 HI30 HI31 HI32 Hx Hrw Hid Hw Hou Hg Hap Ham Hst0 Hst1 Hst2 Hst3
  · unfold owing; iexists W; iexact HO
  iintro HO HatB Ha0 Ha1 Ha2 Ha3 D00 D01 D02 D10 D11 D12 D20 D21 D22 D30 D31 D32 P00 P01 P02 P10 P11 P12 P20 P21 P22 P30 P31 P32 Hx Hrw Hid Hw Hou Hg Hap Ham Hst0 Hst1 Hst2 Hst3
  imod (all_closed m K c) $$ HR HatB Ha0 Ha1 Ha2 Ha3 D00 D01 D02 D10 D11 D12 D20 D21 D22 D30 D31 D32 with ⟨Hu, Ho⟩
  imodintro
  ihave HL0 := (land_of_landed m 0 c) $$ [P00 P01 P02]
  · isplitl [P00]; · iexact P00
    isplitl [P01] <;> iassumption
  ihave HL1 := (land_of_landed m 1 c) $$ [P10 P11 P12]
  · isplitl [P10]; · iexact P10
    isplitl [P11] <;> iassumption
  ihave HL2 := (land_of_landed m 2 c) $$ [P20 P21 P22]
  · isplitl [P20]; · iexact P20
    isplitl [P21] <;> iassumption
  ihave HL3 := (land_of_landed m 3 c) $$ [P30 P31 P32]
  · isplitl [P30]; · iexact P30
    isplitl [P31] <;> iassumption
  unfold bodyPost Φ₁ Dat.owesAt Pipeline.owesWithin
  rw [scratch_eq, show (dats m ρ 0 c).owed t0_0.succ = owedL c (sched.drop 16) from rfl]
  isplitl [Hu Ho Hg Hap Ham Hst0 Hst1 Hst2 Hst3 HL0 HL1 HL2 HL3]
  · isplitl [Hu]; · iexact Hu
    isplitl [Ho]; · iexact Ho
    isplitl [Hg]; · iexists _; iexact Hg
    isplitl [Hap]; · iexists _; iexact Hap
    isplitl [Ham]; · iexists _; iexact Ham
    isplitl [Hst0]; · iexists _; iexact Hst0
    isplitl [Hst1]; · iexists _; iexact Hst1
    isplitl [Hst2]; · iexists _; iexact Hst2
    isplitl [Hst3]; · iexists _; iexact Hst3
    isplitl [HL0]; · iexact HL0
    isplitl [HL1]; · iexact HL1
    isplitl [HL2]; · iexact HL2
    iexact HL3
  isplitl [HO]
  · unfold owing
    icases HO with ⟨%W', HO⟩
    iexists W'
    isplitr; · ipureintro; exact fun _ _ => Or.inl trivial
    iexact HO
  isplitl [Hx]; · iexists _; isplitr; · (ipureintro; rfl)
                  iexact Hx
  isplitl [Hrw]; · iexists _; isplitr; · (ipureintro; rfl)
                   iexact Hrw
  isplitl [Hid]; · iexists _; isplitr; · (ipureintro; rfl)
                   iexact Hid
  isplitl [Hw]; · iexists _; isplitr; · (ipureintro; rfl)
                  iexact Hw
  iexists _; isplitr; · (ipureintro; rfl)
  iexact Hou

set_option maxRecDepth 30000 in
theorem body_obligation (c : Dev nD) : BodyObligation (dats (F := F) m ρ 0 c) (defs₀ (F := F)) 𝒱₀ () Set.univ := fun t => by
  rw [fin_one t]
  rw [bigSep_W0, bigSep_W0]
  simp only [owns_whole_eq]
  exact body_meets m ρ c

/-! ## The launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => owedL d sched) c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem enter (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem leave (c : Dev nD) :
    (dats m ρ 0 c).Φ (Fin.last cfg0.N) ⊢ iprop(unscopedSems0 c ∗ Pipeline.ownSems0 osem c ∗ Pipeline.scopedRest cfg0.spec c) :=
  Entails.of_eq rfl

/-- The pipeline's own semaphores lie below every cell. -/
theorem mayWait_stage (c : Dev nD) (q : DmaSem sig) (hq : kind (.dma q) = none) (O : CellTallies nD τ sig Unit) (hO : O = owedL c sched ∨ O = 0) :
    (levAts L lv : sProp 𝕄) ⊢ MayWait (c : Thread nD τ) (.dma q) () O := by
  have h0 : lv ((c : Thread nD τ), SemLoc.dma q) () = 0 := by unfold lv; rw [hq]; rfl
  rcases hO with rfl | rfl
  · exact mayWait_of c (.dma q) sched (by rw [h0]; decide)
  · exact mayWait_of c (.dma q) [] (fun e he => absurd he List.not_mem_nil)

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

set_option maxRecDepth 8000 in
/-- From any memory with zero counters, at any float values: every run of the sixteen devices ends, every array a window
    stages at its contents after the write-backs, every counter at zero. -/
theorem run_main : θ_run defs (onTc (τ := τ) (main (F := F))) (s₀ m ρ)
    (fun r => (∀ c : Dev nD, ∀ w : Fin cfg0.W, r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owedL d sched) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays hold what they held. -/
theorem finalA_in (c : Dev nD) (w : Fin 5) (h : w.val < 4) : finalA m ρ c w = m ((cfg0.win w).arr.view.loc (c : Thread nD τ)) := by
  unfold finalA
  fin_cases w
  · exact (dats (F := F) m ρ 0 c).arrAt_in (0 : Fin 5) rfl _
  · exact (dats (F := F) m ρ 0 c).arrAt_in (1 : Fin 5) rfl _
  · exact (dats (F := F) m ρ 0 c).arrAt_in (2 : Fin 5) rfl _
  · exact (dats (F := F) m ρ 0 c).arrAt_in (3 : Fin 5) rfl _
  · exact absurd h (Nat.lt_irrefl 4)

/-- Every run ends with the arguments unchanged and every counter at zero. -/
theorem quiescent (g : Dev nD → PrngReg) : θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h.1 c 0).trans (finalA_in m g c 0 (by decide)), (h.1 c 1).trans (finalA_in m g c 1 (by decide)),
    (h.1 c 2).trans (finalA_in m g c 2 (by decide)), (h.1 c 3).trans (finalA_in m g c 3 (by decide))⟩, h.2⟩) (run_main m g)

end Cert.KernelIdeal.Moe

end
-- ==== Proof.KernelIdeal.Share.lean ====
/-
One device's share of the outputs, over the extended reals: of token `t` and column `h`, the sum over the device's four
experts and the model's dimensions of the token's entry, its gate and the expert's weight.
-/
module

public import proofs.«01_k».proof.Proof.KernelIdeal.Values
public import Idealize.ShloMosaic.Lib.Pointwise

@[expose] public section

set_option backward.proofsInPublic true

noncomputable section

namespace Cert.KernelIdeal.Moe

open Cert.KernelIdeal Cert.KernelIdeal.Gen
open Idealize.ShloMosaic Idealize.ShloMosaic.TcCoe

set_option maxRecDepth 16384

/-! ## Windows at an index -/

/-- A window of a matrix at an index. -/
theorem window2 {α : Type} {A B a b : ℕ} (x : (⟨2, ![A, B]⟩ : Shape).Idx → α) (off : Fin 2 → ℕ)
    (inb : ∀ k, off k + (![a, b] : Fin 2 → ℕ) k ≤ (⟨2, ![A, B]⟩ : Shape).size k) (p : Fin a) (q : Fin b) (p' : Fin A) (q' : Fin B)
    (hp : p'.val = off 0 + p.val) (hq : q'.val = off 1 + q.val) :
    VecWindow.window x off ![a, b] inb (ix2 p q) = x (ix2 p' q') := by
  refine congrArg x (funext fun k => Fin.ext ?_)
  match k with
  | ⟨0, _⟩ => exact (congrArg (off 0 + ·) (Nat.one_mul _)).trans hp.symm
  | ⟨1, _⟩ => exact (congrArg (off 1 + ·) (Nat.one_mul _)).trans hq.symm

/-- A window of a box at an index. -/
theorem window3 {α : Type} {A B C a b c : ℕ} (x : (⟨3, ![A, B, C]⟩ : Shape).Idx → α) (off : Fin 3 → ℕ)
    (inb : ∀ k, off k + (![a, b, c] : Fin 3 → ℕ) k ≤ (⟨3, ![A, B, C]⟩ : Shape).size k) (p : Fin a) (q : Fin b) (r : Fin c)
    (p' : Fin A) (q' : Fin B) (r' : Fin C) (hp : p'.val = off 0 + p.val) (hq : q'.val = off 1 + q.val) (hr : r'.val = off 2 + r.val) :
    VecWindow.window x off ![a, b, c] inb (ix3 p q r) = x (ix3 p' q' r') := by
  refine congrArg x (funext fun k => Fin.ext ?_)
  match k with
  | ⟨0, _⟩ => exact (congrArg (off 0 + ·) (Nat.one_mul _)).trans hp.symm
  | ⟨1, _⟩ => exact (congrArg (off 1 + ·) (Nat.one_mul _)).trans hq.symm
  | ⟨2, _⟩ => exact (congrArg (off 2 + ·) (Nat.one_mul _)).trans hr.symm

/-! ## The products -/

/-- Scaled rows at an index: the column says which gate and which dimension. -/
theorem blk_apply (x : Vec Ideal S2048x512 .f32) (g : Vec Ideal S2048x4 .f32) (t : Fin 16) (r : Fin 128) (j : Fin 4) (d : Fin 512)
    (T : Fin 2048) (hT : T.val = 128 * t.val + r.val) (k : Fin 2048) (hk : k.val = 512 * j.val + d.val) :
    blk x g t (ix2 r k) = x (ix2 T d) * g (ix2 T j) := by
  have hx : ∀ d' : Fin 512, d'.val = d.val → rows x t (ix2 r d') = x (ix2 T d) := fun d' e =>
    window2 x _ _ r d' T d hT (by rw [← e]; exact (Nat.zero_add _).symm)
  have hg : ∀ j' : Fin 4, j' = j → gcol g t j' (ix2 r 0) = g (ix2 T j) := fun j' e => by
    subst e; exact window2 g _ _ r 0 T j' hT rfl
  unfold blk
  pointwise [k0_pay16]
  split_ifs <;> exact congrArg₂ (· * ·) (hx _ (by simp only []; omega)) (hg _ (by apply Fin.ext; simp; omega))

/-- The four tiles' product at an index. -/
theorem half_apply (b : Fin 4 → FVec Ideal S128x2048 .f32) (w : Vec Ideal S4x512x512 .f32) (p q : Fin 512) (z : Fin 4) (r : Fin 128)
    (hp : p.val = 128 * z.val + r.val) :
    half b w (ix2 p q) = ∑ k : Fin 2048, b z (ix2 r k) * w (ix3 ⟨k.val / 512, by omega⟩ ⟨k.val % 512, by omega⟩ q) := by
  have hb : ∀ (z' : Fin 4) (r' : Fin 128), z'.val = z.val → r'.val = r.val → ∀ k, b z' (ix2 r' k) = b z (ix2 r k) := fun z' r' e e' k => by
    rw [Fin.ext e, Fin.ext e']
  pointwise [half]
  refine Finset.sum_congr rfl fun k _ => congrArg (· * _) ?_
  split_ifs <;> exact hb _ _ (by simp; omega) (by simp only []; omega) k

variable (m : (ℓ : Loc nD τ sig) → Buf (Elt Ideal) ℓ)

/-- Device `c`'s share of the output of token `t`, column `h`. -/
def share (c : Dev nD) (t : Fin 2048) (h : Fin 1024) : EReal :=
  ∑ j : Fin 4, ∑ d : Fin 512, xs m c (ix2 t d) * gates m c (ix2 t j) * ews m c (ix3 j d h)

/-- A partial product is the device's share of its tiles' tokens. -/
theorem part_apply (c : Dev nD) (δ : ℕ) (h : Fin 2) (p q : Fin 512) (z : Fin 4) (r : Fin 128) (hp : p.val = 128 * z.val + r.val)
    (t : Fin 2048) (ht : t.val = 128 * (tile c δ z).val + r.val) (H : Fin 1024) (hH : H.val = 512 * h.val + q.val) :
    part m c δ h (ix2 p q) = share m c t H := by
  rw [part, half_apply _ _ p q z r hp, share, ← Fintype.sum_prod_type']
  refine (Fintype.sum_equiv (finProdFinEquiv (m := 4) (n := 512)) _ _ fun jd => ?_).symm
  obtain ⟨j, d⟩ := jd
  have hv : (finProdFinEquiv (m := 4) (n := 512) (j, d)).val = 512 * j.val + d.val := Nat.add_comm _ _
  refine (congrArg₂ (· * ·) (blk_apply (xs m c) (gates m c) (tile c δ z) r j d t ht _ hv) ?_).symm
  exact window3 (ews m c) _ _ _ _ q j d H (by simp only [hv]; show _ = 0 + _; omega) (by simp only [hv]; show _ = 0 + _; omega) hH

end Cert.KernelIdeal.Moe

end
-- ==== Proof.KernelIdeal.Total.lean ====
/-
The two rings' sums, over the extended reals: a device's block of the result is the sum of all sixteen devices' shares.
-/
module

public import proofs.«01_k».proof.Proof.KernelIdeal.Share

@[expose] public section

set_option backward.proofsInPublic true

noncomputable section

namespace Cert.KernelIdeal.Moe

open Cert.KernelIdeal Cert.KernelIdeal.Gen
open Idealize.ShloMosaic Idealize.ShloMosaic.TcCoe

set_option maxRecDepth 16384

variable (m : (ℓ : Loc nD τ sig) → Buf (Elt Ideal) ℓ)

/-! ## What travels, at an index -/

theorem lowA_apply (a : FVec Ideal S512x512 .f32) (i : S512x512.Idx) : lowA a i = a i := by pointwise [lowA]
theorem lowB_apply (a : FVec Ideal S128x512 .f32) (i : S128x512.Idx) : lowB a i = a i := by pointwise [lowB, k0_pay72]
theorem addA_apply (b : FVec Ideal S512x512 .bf16) (a : FVec Ideal S512x512 .f32) (i : S512x512.Idx) : addA b a i = b i + a i := by pointwise [addA]
theorem addB_apply (b : FVec Ideal S128x512 .bf16) (a : FVec Ideal S128x512 .f32) (i : S128x512.Idx) : addB b a i = b i + a i := by pointwise [addB]

/-- The device `n` steps up ring `ρ`, against its direction. -/
def up (ρ : Fin 4) : ℕ → Dev nD → Dev nD
  | 0, c => c
  | n + 1, c => nb (opp ρ) (up ρ n c)

/-- A plane's sum at an index: the four partial products that the ring collects. -/
theorem accA_apply (ρ : Fin 4) (c : Dev nD) (i : S512x512.Idx) :
    accA m ρ c i = ((part m (up ρ 3 c) (dA ρ 0) (hA ρ) i + part m (up ρ 2 c) (dA ρ 1) (hA ρ) i)
      + part m (up ρ 1 c) (dA ρ 2) (hA ρ) i) + part m (up ρ 0 c) (dA ρ 3) (hA ρ) i := by
  have e : accA m ρ c i = addA (sA m ρ 2 (nb (opp ρ) c)) (part m c (dA ρ 3) (hA ρ)) i := by
    unfold accA
    pointwise
  rw [e]
  simp only [sA, addA_apply, lowA_apply, up]

/-- A device's half at an index: the four planes' sums that the ring collects. -/
theorem outH_apply (ρ : Fin 4) (c : Dev nD) (i : S128x512.Idx) :
    outH m ρ c i = ((chunk (accA m (low ρ) (up ρ 3 c)) (zq (up ρ 3 c) (dB ρ 0)) i + chunk (accA m (low ρ) (up ρ 2 c)) (zq (up ρ 2 c) (dB ρ 1)) i)
      + chunk (accA m (low ρ) (up ρ 1 c)) (zq (up ρ 1 c) (dB ρ 2)) i) + chunk (accA m (low ρ) (up ρ 0 c)) (zq (up ρ 0 c) (dB ρ 3)) i := by
  simp only [outH, sB, addB_apply, lowB_apply, up]

/-! ## Whose share comes when -/

/-- The device whose share the ring across the planes takes at its step `s`, of the part its plane's ring took at step `k`. -/
def src (ρ : Fin 4) (c : Dev nD) (s k : Fin 4) : Dev nD := up (low ρ) (3 - k.val) (up ρ (3 - s.val) c)

/-- Whichever device it is, the tile is the receiver's. -/
theorem tile_src (h : Fin 2) (c : Dev nD) (s k : Fin 4) :
    tile (src (2 + h.castLE (by decide)) c s k) (dA (low (2 + h.castLE (by decide))) k.val) (zq (up (2 + h.castLE (by decide)) (3 - s.val) c) (dB (2 + h.castLE (by decide)) s.val)) = c := by
  revert h c s k; decide +kernel

/-- Every device comes once. -/
theorem src_all (h : Fin 2) (c : Dev nD) : (Finset.univ : Finset (Dev nD)).val
    = ((Finset.univ : Finset (Fin 4 × Fin 4)).val.map fun sk => src (2 + h.castLE (by decide)) c sk.1 sk.2) := by
  revert h c; decide +kernel

/-- The half a ring across the planes carries. -/
theorem hA_low (h : Fin 2) : hA (low (2 + h.castLE (by decide))) = h := by revert h; decide

/-- A sum over the ring's steps is a sum over the devices. -/
theorem sum_src (h : Fin 2) (c : Dev nD) (f : Dev nD → EReal) :
    ∑ s : Fin 4, ∑ k : Fin 4, f (src (2 + h.castLE (by decide)) c s k) = ∑ d : Dev nD, f d := by
  rw [← Fintype.sum_prod_type' (f := fun s k => f (src (2 + h.castLE (by decide)) c s k))]
  show (Multiset.map _ _).sum = (Multiset.map _ _).sum
  rw [src_all h c, Multiset.map_map]
  rfl

/-- A half of a device's result, entry by entry. -/
theorem outH_total (h : Fin 2) (c : Dev nD) (r : Fin 128) (q : Fin 512) (t : Fin 2048) (ht : t.val = 128 * c.val + r.val)
    (H : Fin 1024) (hH : H.val = 512 * h.val + q.val) :
    outH m (2 + h.castLE (by decide)) c (ix2 r q) = ∑ d : Dev nD, share m d t H := by
  rw [← sum_src h c, outH_apply]
  have key : ∀ s : Fin 4, chunk (accA m (low (2 + h.castLE (by decide))) (up (2 + h.castLE (by decide)) (3 - s.val) c))
      (zq (up (2 + h.castLE (by decide)) (3 - s.val) c) (dB (2 + h.castLE (by decide)) s.val)) (ix2 r q)
      = ∑ k : Fin 4, share m (src (2 + h.castLE (by decide)) c s k) t H := fun s => by
    set z := zq (up (2 + h.castLE (by decide)) (3 - s.val) c) (dB (2 + h.castLE (by decide)) s.val) with hz
    have hp : (⟨128 * z.val + r.val, by omega⟩ : Fin 512).val = 128 * z.val + r.val := rfl
    rw [chunk, window2 _ _ _ r q ⟨128 * z.val + r.val, by omega⟩ q rfl (Nat.zero_add _).symm, accA_apply, Fin.sum_univ_four]
    have one : ∀ k : Fin 4, part m (src (2 + h.castLE (by decide)) c s k) (dA (low (2 + h.castLE (by decide))) k.val) (hA (low (2 + h.castLE (by decide))))
        (ix2 ⟨128 * z.val + r.val, by omega⟩ q) = share m (src (2 + h.castLE (by decide)) c s k) t H := fun k =>
      part_apply m _ _ _ _ q z r hp t (by rw [hz, tile_src]; exact ht) H (by rw [hA_low]; exact hH)
    exact congrArg₂ (· + ·) (congrArg₂ (· + ·) (congrArg₂ (· + ·) (one 0) (one 1)) (one 2)) (one 3)
  rw [Fin.sum_univ_four]
  exact congrArg₂ (· + ·) (congrArg₂ (· + ·) (congrArg₂ (· + ·) (key 0) (key 1)) (key 2)) (key 3)

/-- A device's block of the result: the sum of the devices' shares. -/
theorem outAt_total (c : Dev nD) (r : Fin 128) (H : Fin 1024) (t : Fin 2048) (ht : t.val = 128 * c.val + r.val) :
    outAt m c (ix2 r H) = ∑ d : Dev nD, share m d t H := by
  have hi : outIdx (ix2 r H) = ix2 r ⟨H.val % 512, Nat.mod_lt _ (by decide)⟩ := by
    refine funext fun k => ?_
    match k with
    | ⟨0, _⟩ => rfl
    | ⟨1, _⟩ => rfl
  show outH m (if H.val < 512 then 2 else 3) c (outIdx (ix2 r H)) = _
  rw [hi]
  by_cases hh : H.val < 512
  · rw [if_pos hh]; exact outH_total m 0 c r _ t ht H (by show _ = 512 * 0 + H.val % 512; omega)
  · rw [if_neg hh]; exact outH_total m 1 c r _ t ht H (by have := H.isLt; show _ = 512 * 1 + H.val % 512; omega)

end Cert.KernelIdeal.Moe

end
-- ==== Proof.Weights.lean ====
/-
The mathematics of the claim, over the extended reals and apart from any program: the two routed experts' weights are
the same ratio however the exponentials are scaled, and the sum over all experts of gated products is the two routed
experts' products, weighted.
-/
module

public import Idealize.ShloMosaic.PureOps.Ideal

@[expose] public section

noncomputable section

namespace Cert.Weights

open Idealize.ShloMosaic

/-! ## The weights -/

/-- The weight of the first of two scores. -/
def weight (a b : ℝ) : ℝ := Real.exp a / (Real.exp a + Real.exp b)

theorem weight_nonneg (a b : ℝ) : 0 ≤ weight a b := by unfold weight; positivity

/-- A quotient of reals. -/
theorem div_real (a b : ℝ) (h : b ≠ 0) : Ideal.div (a : EReal) (b : EReal) = ((a / b : ℝ) : EReal) := by
  rw [Ideal.div_coe h, ← EReal.coe_mul]
  congr 1
  field_simp

/-- The greater of two reals. -/
theorem max_real (a b : ℝ) : max (a : EReal) (b : EReal) = ((max a b : ℝ) : EReal) := (EReal.coe_strictMono.monotone.map_max).symm

/-- A sum of reals. -/
theorem sum_real {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- Exponentials shifted by a common real have the same ratio. -/
theorem shifted (a b M : ℝ) :
    Ideal.div (Ideal.exp ((a : EReal) - M)) (Ideal.exp ((a : EReal) - M) + Ideal.exp ((b : EReal) - M)) = (weight a b : EReal) := by
  rw [← EReal.coe_sub, ← EReal.coe_sub, Ideal.exp_coe, Ideal.exp_coe, ← EReal.coe_add, div_real _ _ (by positivity)]
  congr 1
  rw [weight, Real.exp_sub, Real.exp_sub]
  field_simp

/-- The kernel's weights: shifted by the greater of the two scores. -/
theorem weight_max (a b : ℝ) :
    Ideal.div (Ideal.exp ((a : EReal) - max (a : EReal) b)) (Ideal.exp ((a : EReal) - max (a : EReal) b) + Ideal.exp ((b : EReal) - max (a : EReal) b)) = (weight a b : EReal) := by
  rw [max_real]
  exact shifted a b _

/-- The reference's weights: probabilities of a softmax over all the scores, divided by the two's sum. -/
theorem weight_softmax {n : ℕ} [NeZero n] (S : Fin n → ℝ) (M : ℝ) (a b : Fin n) :
    Ideal.div (Ideal.div (Ideal.exp ((S a : EReal) - M)) (∑ e, Ideal.exp ((S e : EReal) - M)))
      (Ideal.div (Ideal.exp ((S a : EReal) - M)) (∑ e, Ideal.exp ((S e : EReal) - M))
        + Ideal.div (Ideal.exp ((S b : EReal) - M)) (∑ e, Ideal.exp ((S e : EReal) - M))) = (weight (S a) (S b) : EReal) := by
  have hs : (∑ e, Ideal.exp ((S e : EReal) - M)) = ((∑ e, Real.exp (S e - M) : ℝ) : EReal) := by
    rw [sum_real]
    refine Finset.sum_congr rfl fun e _ => ?_
    rw [← EReal.coe_sub, Ideal.exp_coe]
  have hp : 0 < ∑ e, Real.exp (S e - M) := Finset.sum_pos (fun e _ => Real.exp_pos _) Finset.univ_nonempty
  rw [hs, ← EReal.coe_sub, ← EReal.coe_sub, Ideal.exp_coe, Ideal.exp_coe, div_real _ _ hp.ne', div_real _ _ hp.ne', ← EReal.coe_add,
    div_real _ _ (by positivity)]
  congr 1
  rw [weight, Real.exp_sub, Real.exp_sub]
  field_simp

/-- The greatest of finitely many reals, folded up from minus infinity, is a real. -/
theorem fold_max_real {ι : Type} (s : Finset ι) (hs : s.Nonempty) (S : ι → ℝ) : ∃ M : ℝ, s.fold max (⊥ : EReal) (fun e => (S e : EReal)) = M := by
  classical
  induction hs using Finset.Nonempty.cons_induction with
  | singleton a => exact ⟨S a, by simp⟩
  | cons a s h _ ih =>
    obtain ⟨M, hM⟩ := ih
    exact ⟨max (S a) M, by rw [Finset.fold_cons, hM, max_real]⟩

/-! ## The sum over the experts -/

/-- A real, not negative, goes into a sum of extended reals. -/
theorem mul_sum_real {ι : Type} (s : Finset ι) (u : ℝ) (hu : 0 ≤ u) (f : ι → EReal) : ∑ i ∈ s, (u : EReal) * f i = u * ∑ i ∈ s, f i := by
  classical
  induction s using Finset.induction_on with
  | empty => simp
  | insert a s h ih => rw [Finset.sum_insert h, Finset.sum_insert h, ih, EReal.left_distrib_of_nonneg_of_ne_top (EReal.coe_nonneg.mpr hu) (EReal.coe_ne_top u)]

/-- A sum over the devices and their experts is a sum over the experts. -/
theorem sum_experts (f : Fin 64 → EReal) : ∑ c : Fin 16, ∑ j : Fin 4, f ⟨4 * c.val + j.val, by omega⟩ = ∑ e, f e := by
  rw [← Fintype.sum_prod_type']
  refine Fintype.sum_equiv (finProdFinEquiv (m := 16) (n := 4)) _ _ fun cj => congrArg f (Fin.ext ?_)
  exact Nat.add_comm _ _

/-- Of the experts' products under their gates only the two routed ones are left, each under its weight. -/
theorem sum_routed (x : Fin 512 → ℝ) (W : Fin 64 → Fin 512 → EReal) (a b : Fin 64) (u v : ℝ) (hu : 0 ≤ u) (hv : 0 ≤ v) :
    ∑ e : Fin 64, ∑ d : Fin 512, (x d : EReal) * ((if a = e then (u : EReal) else 0) + (if b = e then (v : EReal) else 0)) * W e d
      = u * (∑ d, (x d : EReal) * W a d) + v * (∑ d, (x d : EReal) * W b d) := by
  have one : ∀ (g : Fin 64) (w : ℝ), (∑ e : Fin 64, (if g = e then (w : EReal) else 0) * ∑ d, (x d : EReal) * W e d) = w * ∑ d, (x d : EReal) * W g d := fun g w => by
    rw [Finset.sum_eq_single g (fun e _ h => by rw [if_neg (Ne.symm h), zero_mul]) (fun h => absurd (Finset.mem_univ g) h), if_pos rfl]
  rw [← one a u, ← one b v, ← Finset.sum_add_distrib]
  refine Finset.sum_congr rfl fun e _ => ?_
  have gate : ∀ (g : Fin 64) (w : ℝ), 0 ≤ w → ∃ w' : ℝ, 0 ≤ w' ∧ (if g = e then (w : EReal) else 0) = w' := fun g w hw => by
    by_cases h : g = e
    · exact ⟨w, hw, if_pos h⟩
    · exact ⟨0, le_refl _, by rw [if_neg h]; rfl⟩
  obtain ⟨u', hu', eu⟩ := gate a u hu
  obtain ⟨v', hv', ev⟩ := gate b v hv
  rw [eu, ev, ← mul_sum_real _ u' hu', ← mul_sum_real _ v' hv', ← Finset.sum_add_distrib]
  refine Finset.sum_congr rfl fun d _ => ?_
  rw [mul_comm (x d : EReal), mul_assoc, EReal.right_distrib_of_nonneg (EReal.coe_nonneg.mpr hu') (EReal.coe_nonneg.mpr hv')]

end Cert.Weights

end
-- ==== Proof.KernelIdeal.Gates.lean ====
/-
The gates, over the extended reals: of device `c`'s expert `j` and token `t` the sum of the token's two weights, each where
it is routed there.
-/
module

public import proofs.«01_k».proof.Proof.KernelIdeal.Share
public import proofs.«01_k».proof.Proof.Weights

@[expose] public section

set_option backward.proofsInPublic true

noncomputable section

namespace Cert.KernelIdeal.Moe

open Cert.KernelIdeal Cert.KernelIdeal.Gen
open Idealize.ShloMosaic Idealize.ShloMosaic.TcCoe

set_option maxRecDepth 16384

/-! ## Scores by a one-hot sum -/

theorem word_inj (a b : Fin 64) : BitVec.ofNat 32 a.val = BitVec.ofNat 32 b.val ↔ a = b := by revert a b; decide +kernel

/-- A one-hot mask picks its term. -/
theorem pick (f : Fin 64 → EReal) (w : BitVec 32) (e : Fin 64) (hw : w = BitVec.ofNat 32 e.val) :
    ∑ k : Fin 64, f k * FloatOps.sitofp (F := Ideal) FTy.f32 (BitVec.setWidth 32 (IntOp.cmpi CmpIPredicate.eq w (BitVec.ofNat 32 k.val))) = f e := by
  subst hw
  rw [Finset.sum_eq_single e]
  · have h : IntOp.cmpi CmpIPredicate.eq (BitVec.ofNat 32 e.val) (BitVec.ofNat 32 e.val) = 1#1 := by simp [IntOp.cmpi]
    rw [h]
    show f e * (((1 : ℤ) : ℝ) : EReal) = f e
    simp
  · intro k _ hk
    have h : IntOp.cmpi CmpIPredicate.eq (BitVec.ofNat 32 e.val) (BitVec.ofNat 32 k.val) = 0#1 := by
      have h' : BitVec.ofNat 32 e.val ≠ BitVec.ofNat 32 k.val := fun h => hk ((word_inj e k).mp h).symm
      show BitVec.ofBool (_ == _) = 0#1
      rw [beq_eq_false_iff_ne.mpr h']; rfl
    rw [h]
    show f k * (((0 : ℤ) : ℝ) : EReal) = 0
    simp
  · exact fun h => absurd (Finset.mem_univ e) h

/-- A token's score of an expert. -/
def score (x : Vec Ideal S2048x512 .f32) (w : Vec Ideal S512x64 .f32) (t : Fin 2048) (e : Fin 64) : EReal := ∑ d : Fin 512, x (ix2 t d) * w (ix2 d e)

theorem pay4_apply (x : Vec Ideal S2048x512 .f32) (w : Vec Ideal S512x64 .f32) (i : Vec Ideal S2048x1 .i32) (t : Fin 2048) (e : Fin 64)
    (hi : i (ix2 t 0) = BitVec.ofNat 32 e.val) : k0_pay4 x w i (ix2 t 0) = score x w t e := by
  pointwise [k0_pay4, k0_pay1, k0_pay2]
  exact pick (score x w t) _ e hi

theorem pay5_apply (x : Vec Ideal S2048x512 .f32) (w : Vec Ideal S512x64 .f32) (i : Vec Ideal S2048x1 .i32) (t : Fin 2048) (e : Fin 64)
    (hi : i (ix2 t 0) = BitVec.ofNat 32 e.val) : k0_pay5 x w i (ix2 t 0) = score x w t e := by
  pointwise [k0_pay5, k0_pay1, k0_pay3]
  exact pick (score x w t) _ e hi

/-! ## The weights, routed -/

variable (m : (ℓ : Loc nD τ sig) → Buf (Elt Ideal) ℓ)

theorem idCol_apply (c : Dev nD) (j : Fin 2) (t : Fin 2048) : idCol m c j (ix2 t 0) = ids m c (ix2 t j) :=
  window2 (ids m c) _ _ t 0 t j (Nat.zero_add _).symm rfl

/-- The first and second weight of a token whose scores of its two experts are real. -/
theorem g0_apply (c : Dev nD) (t : Fin 2048) (r0 r1 : Fin 64) (h0 : ids m c (ix2 t 0) = BitVec.ofNat 32 r0.val) (h1 : ids m c (ix2 t 1) = BitVec.ofNat 32 r1.val)
    (a b : ℝ) (ha : score (xs m c) (rws m c) t r0 = a) (hb : score (xs m c) (rws m c) t r1 = b) :
    g0 m c (ix2 t 0) = (Weights.weight a b : EReal) := by
  rw [← Weights.weight_max, ← ha, ← hb, ← pay4_apply _ _ (idCol m c 0) t r0 ((idCol_apply m c 0 t).trans h0), ← pay5_apply _ _ (idCol m c 1) t r1 ((idCol_apply m c 1 t).trans h1)]
  unfold g0
  pointwise [k0_pay9, k0_pay7, k0_pay8, k0_pay6]

theorem g1_apply (c : Dev nD) (t : Fin 2048) (r0 r1 : Fin 64) (h0 : ids m c (ix2 t 0) = BitVec.ofNat 32 r0.val) (h1 : ids m c (ix2 t 1) = BitVec.ofNat 32 r1.val)
    (a b : ℝ) (ha : score (xs m c) (rws m c) t r0 = a) (hb : score (xs m c) (rws m c) t r1 = b) :
    g1 m c (ix2 t 0) = (Weights.weight b a : EReal) := by
  rw [← Weights.weight_max, ← ha, ← hb, ← pay4_apply _ _ (idCol m c 0) t r0 ((idCol_apply m c 0 t).trans h0), ← pay5_apply _ _ (idCol m c 1) t r1 ((idCol_apply m c 1 t).trans h1)]
  unfold g1
  rw [max_comm, add_comm]
  pointwise [k0_pay10, k0_pay7, k0_pay8, k0_pay6]

/-- A device's expert's word. -/
theorem expert_word (c : Dev nD) (j : Fin 4) : Scalar.addi (Scalar.muli (devWord c) 4#32) (BitVec.ofNat 32 j.val) = BitVec.ofNat 32 (4 * c.val + j.val) := by
  revert c j; decide +kernel

/-- A choice by a comparison of words. -/
theorem select_word (r e : Fin 64) (v w : BitVec 32) (hv : v = BitVec.ofNat 32 r.val) (hw : w = BitVec.ofNat 32 e.val) (x : EReal) :
    Scalar.select (IntOp.cmpi CmpIPredicate.eq v w) x 0 = if r = e then x else 0 := by
  subst hv hw
  by_cases h : r = e
  · subst h; rw [if_pos rfl]; simp [IntOp.cmpi, Scalar.select]
  · have h' : BitVec.ofNat 32 r.val ≠ BitVec.ofNat 32 e.val := fun k => h ((word_inj r e).mp k)
    rw [if_neg h]; simp [IntOp.cmpi, Scalar.select, beq_eq_false_iff_ne.mpr h']

/-- A gate: the two weights, each where the token is routed to the expert. -/
theorem gates_apply (c : Dev nD) (t : Fin 2048) (j : Fin 4) (r0 r1 : Fin 64) (h0 : ids m c (ix2 t 0) = BitVec.ofNat 32 r0.val) (h1 : ids m c (ix2 t 1) = BitVec.ofNat 32 r1.val)
    (e : Fin 64) (he : e.val = 4 * c.val + j.val) :
    gates m c (ix2 t j) = (if r0 = e then g0 m c (ix2 t 0) else 0) + (if r1 = e then g1 m c (ix2 t 0) else 0) := by
  have hc : colIdx t = ix2 t 0 := by
    refine funext fun k => ?_
    match k with
    | ⟨0, _⟩ => rfl
    | ⟨1, _⟩ => rfl
  have ei : ∀ k : Fin 2, idCol m c k (ix2 t 0) = ids m c (ix2 t k) := fun k => idCol_apply m c k t
  have i0 : e0 m c (ix2 t 0) = BitVec.ofNat 32 r0.val := by rw [← h0, ← ei]; unfold e0; pointwise [k0_pay2]
  have i1 : e1 m c (ix2 t 0) = BitVec.ofNat 32 r1.val := by rw [← h1, ← ei]; unfold e1; pointwise [k0_pay3]
  have ew : Scalar.addi (Scalar.muli (devWord c) 4#32) (BitVec.ofNat 32 j.val) = BitVec.ofNat 32 e.val := he ▸ expert_word c j
  rw [← select_word r0 e _ _ i0 ew, ← select_word r1 e _ _ i1 ew]
  show gateCol m c j (colIdx t) = _
  rw [hc]
  match j with
  | 0 => unfold gateCol; pointwise [k0_pay11]
  | 1 => unfold gateCol; pointwise [k0_pay12]
  | 2 => unfold gateCol; pointwise [k0_pay14, k0_pay13]
  | 3 => unfold gateCol; pointwise [k0_pay15]

end Cert.KernelIdeal.Moe

end
-- ==== Proof.Reference.lean ====
module

public import proofs.«01_k».proof.Proof.Gen.ReferenceIdeal.Run
public import Idealize.ShloMosaic.Lib.Pointwise
public import proofs.«01_k».proof.Proof.Weights

/-! The reference read at one entry: its softmax of the routing scores, the two gathered probabilities and the two gathered
    expert products. -/

@[expose] public section
noncomputable section

namespace Cert.ReferenceIdeal.Moe

open Cert.ReferenceIdeal Cert.ReferenceIdeal.Gen
open Idealize.ShloMosaic Idealize.ShloMosaic.TcCoe

set_option maxRecDepth 16384
variable {F : FTy → Type} [FloatOps F]

/-- The first column of the routing indices. -/
def col0 (ids : IVec S2048x2 32) : IVec S2048x1 32 := extractStridedSlice S2048x1 ![0, 0] ids slices_S2048x2_S2048x1_0_0
/-- The second column of the routing indices. -/
def col1 (ids : IVec S2048x2 32) : IVec S2048x1 32 := extractStridedSlice S2048x1 ![0, 1] ids slices_S2048x2_S2048x1_0_1

/-- A column of indices, those below zero counted from the end. -/
def wrap (i : IVec S2048x1 32) : IVec S2048x1x1 32 :=
  shapeCast _ (select (cmpi .slt i (broadcastInDim S2048x1 ![] bcast_S_S2048x1 (constantI S_ 32 0#32)))
    (addi i (broadcastInDim S2048x1 ![] bcast_S_S2048x1 (constantI S_ 32 64#32))) i) shapeCasts_S2048x1_S2048x1x1

/-- Each row's entry at its index. -/
def take (p : FVec F S2048x64 .f32) (i : IVec S2048x1 32) : FVec F S2048x1 .f32 :=
  select (Host.reduce IntOp.andi (andi (cmpi .sge (wrap i) (broadcastInDim S2048x1x1 ![] bcast_S_S2048x1x1 (constantI S_ 32 0#32)))
      (cmpi .sle (wrap i) (broadcastInDim S2048x1x1 ![0, 1, 2] bcast_S1x1x1_S2048x1x1_0_1_2 (broadcastInDim S1x1x1 ![2] bcast_S1_S1x1x1_2 (constantI S1 32 63#32)))))
      (constantI S_ 1 1#1) reducesTo_S2048x1x1_S2048x1_d2 h_S_)
    (Host.gather gather_S2048x64_S2048x1x1_S2048x1_n_1_0_0_1_2_11 p (wrap i))
    (broadcastInDim S2048x1 ![] bcast_S_S2048x1 (constant S_ .f32 0x7FC00000#32))

/-- The routing scores. -/
def scores (x : FVec F S2048x512 .f32) (w : FVec F S512x64 .f32) : FVec F S2048x64 .f32 := Host.dotGeneral dot_S2048x512_S512x64_S2048x64_1_0_0_1_n_n none x w
/-- Each row's largest score. -/
def top (s : FVec F S2048x64 .f32) : FVec F S2048 .f32 := Host.reduce FloatOps.maximumf s (constant S_ .f32 0xFF800000#32) reducesTo_S2048x64_S2048_d1 h_S_
/-- The exponentials of the scores less their row's largest. -/
def exps (s : FVec F S2048x64 .f32) : FVec F S2048x64 .f32 :=
  Host.exp (subf s (broadcastInDim S2048x64 ![0, 1] bcast_S2048x1_S2048x64_0_1 (broadcastInDim S2048x1 ![0] bcast_S2048_S2048x1_0 (top s))))
/-- The softmax of the scores. -/
def probs (s : FVec F S2048x64 .f32) : FVec F S2048x64 .f32 :=
  Host.divf (exps s) (broadcastInDim S2048x64 ![0, 1] bcast_S2048x1_S2048x64_0_1 (broadcastInDim S2048x1 ![0] bcast_S2048_S2048x1_0
    (Host.reduceAdd (exps s) (constant S_ .f32 0x00000000#32) reducesTo_S2048x64_S2048_d1 h_S_)))

/-- Each token's product with the expert that its index names. -/
def prod (x : FVec F S2048x512 .f32) (W : FVec F S64x512x1024 .f32) (i : IVec S2048x1 32) : FVec F S2048x1024 .f32 :=
  Host.dotGeneral dot_S2048x512_S2048x512x1024_S2048x1024_1_1_n_2_0_0 none x
    (Host.gather gather_S64x512x1024_S2048x1_S2048x512x1024_12_0_n_n_0_1_15121024 W
      (broadcastInDim S2048x1 ![0] bcast_S2048_S2048x1_0 (select (cmpi .slt (shapeCast S2048 i shapeCasts_S2048x1_S2048) (broadcastInDim S2048 ![] bcast_S_S2048 (constantI S_ 32 0#32)))
        (addi (shapeCast S2048 i shapeCasts_S2048x1_S2048) (broadcastInDim S2048 ![] bcast_S_S2048 (constantI S_ 32 64#32))) (shapeCast S2048 i shapeCasts_S2048x1_S2048))))

/-- The reference's result of its four arguments. -/
def result (x : FVec F S2048x512 .f32) (w : FVec F S512x64 .f32) (ids : IVec S2048x2 32) (W : FVec F S64x512x1024 .f32) : FVec F S2048x1024 .f32 :=
  let p := take (probs (scores x w)) (col0 ids)
  let q := take (probs (scores x w)) (col1 ids)
  addf (mulf (broadcastInDim S2048x1024 ![0, 1] bcast_S2048x1_S2048x1024_0_1 (Host.divf p (addf p q))) (prod x W (col0 ids)))
    (mulf (broadcastInDim S2048x1024 ![0, 1] bcast_S2048x1_S2048x1024_0_1 (Host.divf q (addf p q))) (prod x W (col1 ids)))

variable (m : (ℓ : Loc nD τ sig) → Buf (Elt F) ℓ)

/-- The printed reference returns `result` of its arguments. -/
theorem res_eq (c : Dev nD) : Value.res_out0 m c = result (m ((c.tc : Thread nD τ).loc main_arg0)) (m ((c.tc : Thread nD τ).loc main_arg1)) (m ((c.tc : Thread nD τ).loc main_arg2)) (m ((c.tc : Thread nD τ).loc main_arg3)) := by
  unfold Value.res_out0 Value.res_main_v41
  rfl

/-- An expert's index word is inside the gather's clamp. -/
theorem word_clamped : ∀ e : Fin 64, min (BitVec.ofNat 32 e.val).toInt.toNat 63 = e.val := by decide

/-- The gather of one entry per row: row `t` reads its own row of the operand at the column that its index word names. -/
theorem entry_at {α : Type} (p : S2048x64.Idx → α) (i : IVec S2048x1x1 32) (t : Fin 2048) (e : Fin 64) (h : i (ix3 t 0 0) = BitVec.ofNat 32 e.val) :
    Host.gather gather_S2048x64_S2048x1x1_S2048x1_n_1_0_0_1_2_11 p i (ix2 t 0) = p (ix2 t e) := by
  have hc : min (i (ix3 t 0 0)).toInt.toNat 63 = e.val := by rw [h]; exact word_clamped e
  refine congrArg p (funext fun a => Fin.ext ?_)
  match a with
  | ⟨0, _⟩ => exact Nat.zero_add _
  | ⟨1, _⟩ =>
    refine Eq.trans (congrArg (fun k : S2048x1x1.Idx => min (i k).toInt.toNat 63) (funext fun b => ?_ : _ = ix3 t 0 0)) hc
    match b with
    | ⟨0, _⟩ => rfl
    | ⟨1, _⟩ => rfl
    | ⟨2, _⟩ => rfl

/-- The gather of one matrix per token: token `t` reads the matrix that its index word names. -/
theorem matrix_at {α : Type} (W : S64x512x1024.Idx → α) (i : IVec S2048x1 32) (t : Fin 2048) (d : Fin 512) (h : Fin 1024) (e : Fin 64)
    (he : i (ix2 t 0) = BitVec.ofNat 32 e.val) :
    Host.gather gather_S64x512x1024_S2048x1_S2048x512x1024_12_0_n_n_0_1_15121024 W i (ix3 t d h) = W (ix3 e d h) := by
  have hc : min (i (ix2 t 0)).toInt.toNat 63 = e.val := by rw [he]; exact word_clamped e
  refine congrArg W (funext fun a => Fin.ext ?_)
  match a with
  | ⟨0, _⟩ =>
    refine Eq.trans (congrArg (fun k : S2048x1.Idx => min (i k).toInt.toNat 63) (funext fun b => ?_ : _ = ix2 t 0)) hc
    match b with
    | ⟨0, _⟩ => rfl
    | ⟨1, _⟩ => rfl
  | ⟨1, _⟩ => exact Nat.zero_add _
  | ⟨2, _⟩ => exact Nat.zero_add _

/-- An index word is never counted from the end. -/
theorem word_kept : ∀ e : Fin 64, Scalar.select (IntOp.cmpi .slt (BitVec.ofNat 32 e.val) 0#32) (IntOp.addi (BitVec.ofNat 32 e.val) 64#32)
    (BitVec.ofNat 32 e.val) = BitVec.ofNat 32 e.val := by decide

/-- An index word passes the gather's range test. -/
theorem word_in : ∀ e : Fin 64, IntOp.andi (IntOp.andi (IntOp.cmpi .sge (BitVec.ofNat 32 e.val) 0#32) (IntOp.cmpi .sle (BitVec.ofNat 32 e.val) 63#32)) (1#1) = 1#1 := by decide

/-- An index column holding an expert's word keeps it. -/
theorem wrap_apply (i : IVec S2048x1 32) (t : Fin 2048) (e : Fin 64) (h : i (ix2 t 0) = BitVec.ofNat 32 e.val) :
    wrap i (ix3 t 0 0) = BitVec.ofNat 32 e.val := by
  pointwise [wrap]
  rw [h]
  exact word_kept e

/-- Each row's entry at its index word. -/
theorem take_apply (p : FVec Ideal S2048x64 .f32) (i : IVec S2048x1 32) (t : Fin 2048) (e : Fin 64) (h : i (ix2 t 0) = BitVec.ofNat 32 e.val) :
    take p i (ix2 t 0) = p (ix2 t e) := by
  pointwise [take]
  rw [entry_at p (wrap i) t e (wrap_apply i t e h), Finset.univ_unique, Finset.fold_singleton]
  rw [show (default : Fin 1) = 0 from rfl, wrap_apply i t e h, word_in]
  rfl

/-- A token's product with the expert that its index word names. -/
theorem prod_apply (x : FVec Ideal S2048x512 .f32) (W : FVec Ideal S64x512x1024 .f32) (i : IVec S2048x1 32) (t : Fin 2048) (h : Fin 1024) (e : Fin 64)
    (he : i (ix2 t 0) = BitVec.ofNat 32 e.val) : prod x W i (ix2 t h) = ∑ d : Fin 512, x (ix2 t d) * W (ix3 e d h) := by
  pointwise [prod]
  refine Finset.sum_congr rfl fun d _ => ?_
  rw [matrix_at W _ t d h e]
  pointwise []
  rw [he]
  exact word_kept e

/-- The first column of the routing indices. -/
theorem col0_apply (ids : IVec S2048x2 32) (t : Fin 2048) : col0 ids (ix2 t 0) = ids (ix2 t 0) := by
  pointwise [col0]
/-- The second column of the routing indices. -/
theorem col1_apply (ids : IVec S2048x2 32) (t : Fin 2048) : col1 ids (ix2 t 0) = ids (ix2 t 1) := by
  pointwise [col1]

/-- A score is the token's product with the expert's router column. -/
theorem scores_apply (x : FVec Ideal S2048x512 .f32) (w : FVec Ideal S512x64 .f32) (t : Fin 2048) (e : Fin 64) :
    scores x w (ix2 t e) = ∑ d : Fin 512, x (ix2 t d) * w (ix2 d e) := by
  pointwise [scores]

/-- The word the maximum starts from is below every real. -/
theorem low : Ideal.ofBits .f32 0xFF800000#32 = ⊥ := by simp [Ideal.ofBits, Ideal.ieee]

/-- A row of real scores has the softmax of those scores less some real. -/
theorem probs_apply (s : FVec Ideal S2048x64 .f32) (t : Fin 2048) (S : Fin 64 → ℝ) (hs : ∀ e, s (ix2 t e) = (S e : EReal)) :
    ∃ M : ℝ, ∀ e, probs s (ix2 t e) = Ideal.div (Ideal.exp ((S e : EReal) - (M : EReal))) (∑ k, Ideal.exp ((S k : EReal) - (M : EReal))) := by
  obtain ⟨M, hM⟩ := Weights.fold_max_real Finset.univ ⟨0, Finset.mem_univ _⟩ S
  refine ⟨M, fun e => ?_⟩
  pointwise [probs, exps, top]
  simp only [hs, low]
  rw [hM]

/-- THE REFERENCE'S RESULT at a token and an output coordinate, for real tokens and router weights and index words naming experts:
    each chosen expert's product under the softmax share of its score between the two chosen ones. -/
theorem result_apply (x : FVec Ideal S2048x512 .f32) (w : FVec Ideal S512x64 .f32) (ids : IVec S2048x2 32) (W : FVec Ideal S64x512x1024 .f32)
    (t : Fin 2048) (h : Fin 1024) (S : Fin 64 → ℝ) (hs : ∀ e, ∑ d : Fin 512, x (ix2 t d) * w (ix2 d e) = (S e : EReal)) (a b : Fin 64)
    (ha : ids (ix2 t 0) = BitVec.ofNat 32 a.val) (hb : ids (ix2 t 1) = BitVec.ofNat 32 b.val) :
    result x w ids W (ix2 t h) = (Weights.weight (S a) (S b) : EReal) * (∑ d : Fin 512, x (ix2 t d) * W (ix3 a d h))
      + (Weights.weight (S b) (S a) : EReal) * (∑ d : Fin 512, x (ix2 t d) * W (ix3 b d h)) := by
  have ha' := (col0_apply ids t).trans ha
  have hb' := (col1_apply ids t).trans hb
  obtain ⟨M, hM⟩ := probs_apply (scores x w) t S fun e => (scores_apply x w t e).trans (hs e)
  have hp := (take_apply (probs (scores x w)) (col0 ids) t a ha').trans (hM a)
  have hq := (take_apply (probs (scores x w)) (col1 ids) t b hb').trans (hM b)
  pointwise [result]
  rw [prod_apply x W _ t h a ha', prod_apply x W _ t h b hb', hp, hq, Weights.weight_softmax S M a b,
    add_comm (Ideal.div (Ideal.exp ((S a : EReal) - M)) _), Weights.weight_softmax S M b a]

end Cert.ReferenceIdeal.Moe
-- ==== Proof.KernelIdeal.Result.lean ====
/-
What the launch leaves in the result array, over the extended reals: device `c`'s block of the reference's result, when
the tokens and the router's weights are real and every routing index names an expert.
-/
module

public import proofs.«01_k».proof.Proof.KernelIdeal.Run
public import proofs.«01_k».proof.Proof.KernelIdeal.Total
public import proofs.«01_k».proof.Proof.KernelIdeal.Gates
public import proofs.«01_k».proof.Proof.Reference
public import Idealize.ShloMosaic.Lib.Layout

@[expose] public section

set_option backward.proofsInPublic true

noncomputable section

namespace Cert.KernelIdeal.Moe

open Cert.KernelIdeal Cert.KernelIdeal.Gen
open Idealize.ShloMosaic Idealize.ShloMosaic.TcCoe

set_option maxRecDepth 16384

/-! ## The windows' blocks are the whole arrays -/

section Arrays

variable {F : FTy → Type} [FloatOps F] (m : (ℓ : Loc nD τ sig) → Buf (Elt F) ℓ) (ρ : Dev nD → PrngReg)

theorem xs_eq (c : Dev nD) : xs m c = m ((c : Thread nD τ).loc main_arg0) :=
  Memref.read_access_unit_zero (Elt F) main_arg0 (funext fun a => by fin_cases a <;> decide) (fun a => by fin_cases a <;> decide) _
theorem rws_eq (c : Dev nD) : rws m c = m ((c : Thread nD τ).loc main_arg1) :=
  Memref.read_access_unit_zero (Elt F) main_arg1 (funext fun a => by fin_cases a <;> decide) (fun a => by fin_cases a <;> decide) _
theorem ids_eq (c : Dev nD) : ids m c = m ((c : Thread nD τ).loc main_arg2) :=
  Memref.read_access_unit_zero (Elt F) main_arg2 (funext fun a => by fin_cases a <;> decide) (fun a => by fin_cases a <;> decide) _
theorem ews_eq (c : Dev nD) : ews m c = m ((c : Thread nD τ).loc main_arg3) :=
  Memref.read_access_unit_zero (Elt F) main_arg3 (funext fun a => by fin_cases a <;> decide) (fun a => by fin_cases a <;> decide) _

/-- The result array ends holding what the body left staged. -/
theorem finalA_out (c : Dev nD) : finalA m ρ c 4 = outAt m c := by
  have hread : ∀ f : Buf (Elt F) ((c : Thread nD τ).loc main_v1), (win0_4.blk (0 : Fin 1)).view.read (Elt F) f = f := fun f =>
    Memref.read_access_unit_zero (Elt F) main_v1 (funext fun a => by fin_cases a <;> decide) (fun a => by fin_cases a <;> decide) f
  refine (hread _).symm.trans ?_
  unfold finalA
  rw [show cfg0.N = t0_0.val + 1 from rfl, (dats m ρ 0 c).arrAt_succ 4 t0_0, if_pos (by decide)]
  exact View.read_write_univ _ _

end Arrays

/-! ## The block of the reference's result -/

variable (m : (ℓ : Loc nD τ sig) → Buf (Elt Ideal) ℓ)

/-- Expert `e`'s product with token `t` at output `H`, under its gate: `u` if it is the first chosen, `v` if it is the second. -/
def gated (x : Vec Ideal S2048x512 .f32) (W : FVec Ideal ⟨3, ![64, 512, 1024]⟩ .f32) (t : Fin 2048) (H : Fin 1024) (a b : Fin 64) (u v : ℝ) (e : Fin 64) : EReal :=
  ∑ d : Fin 512, x (ix2 t d) * ((if a = e then (u : EReal) else 0) + (if b = e then (v : EReal) else 0)) * W (ix3 e d H)

/-- A device's share of a token's output, in the whole arrays: its four experts' products under their gates. -/
theorem share_eq_sum (x : Vec Ideal S2048x512 .f32) (w : Vec Ideal S512x64 .f32) (i : Vec Ideal S2048x2 .i32) (W : FVec Ideal ⟨3, ![64, 512, 1024]⟩ .f32)
    (c : Dev nD) (hx : xs m c = x) (hw : rws m c = w) (hi : ids m c = i) (hW : ews m c = Layout.block ⟨3, ![4, 512, 1024]⟩ ⟨3, ![64, 512, 1024]⟩ 0 16 c W)
    (t : Fin 2048) (H : Fin 1024) (S : Fin 64 → ℝ) (hs : ∀ e, ∑ d : Fin 512, x (ix2 t d) * w (ix2 d e) = (S e : EReal)) (a b : Fin 64)
    (ha : i (ix2 t 0) = BitVec.ofNat 32 a.val) (hb : i (ix2 t 1) = BitVec.ofNat 32 b.val) :
    share m c t H = ∑ j : Fin 4, gated x W t H a b (Weights.weight (S a) (S b)) (Weights.weight (S b) (S a))
      ⟨4 * c.val + j.val, by have h : c.val < 16 := c.isLt; omega⟩ := by
  have hc : c.val < 16 := c.isLt
  have h0 : ids m c (ix2 t 0) = BitVec.ofNat 32 a.val := by rw [hi]; exact ha
  have h1 : ids m c (ix2 t 1) = BitVec.ofNat 32 b.val := by rw [hi]; exact hb
  have sa : ∀ e, score (xs m c) (rws m c) t e = (S e : EReal) := fun e => by rw [hx, hw]; exact hs e
  refine Finset.sum_congr rfl fun j _ => Finset.sum_congr rfl fun d _ => ?_
  rw [gates_apply m c t j a b h0 h1 ⟨4 * c.val + j.val, by omega⟩ rfl, g0_apply m c t a b h0 h1 _ _ (sa a) (sa b),
    g1_apply m c t a b h0 h1 _ _ (sa a) (sa b), hx, hW]
  refine congrArg _ (congrArg W (funext fun k => Fin.ext ?_))
  match k with
  | ⟨0, _⟩ => exact congrArg (· + j.val) (Nat.mul_comm c.val 4)
  | ⟨1, _⟩ => rfl
  | ⟨2, _⟩ => rfl

/-- DEVICE `c`'S BLOCK of the reference's result is what its result array holds. -/
theorem outAt_block (x : Vec Ideal S2048x512 .f32) (w : Vec Ideal S512x64 .f32) (i : Vec Ideal S2048x2 .i32) (W : FVec Ideal ⟨3, ![64, 512, 1024]⟩ .f32)
    (hx : ∀ c, xs m c = x) (hw : ∀ c, rws m c = w) (hi : ∀ c, ids m c = i)
    (hW : ∀ c, ews m c = Layout.block ⟨3, ![4, 512, 1024]⟩ ⟨3, ![64, 512, 1024]⟩ 0 16 c W)
    (X : Fin 2048 → Fin 512 → ℝ) (hX : ∀ t d, x (ix2 t d) = (X t d : EReal)) (R : Fin 512 → Fin 64 → ℝ) (hR : ∀ d e, w (ix2 d e) = (R d e : EReal))
    (r : Fin 2048 → Fin 2 → Fin 64) (hr : ∀ t k, i (ix2 t k) = BitVec.ofNat 32 (r t k).val) (c : Dev nD) :
    outAt m c = Layout.block ⟨2, ![128, 1024]⟩ ⟨2, ![2048, 1024]⟩ 0 16 c (Cert.ReferenceIdeal.Moe.result (F := Ideal) x w i W) := by
  have hc : c.val < 16 := c.isLt
  refine funext fun q => ?_
  idx_vars q
  have hs : ∀ t e, ∑ d : Fin 512, x (ix2 t d) * w (ix2 d e) = ((∑ d, X t d * R d e : ℝ) : EReal) := fun t e => by
    rw [Weights.sum_real]
    exact Finset.sum_congr rfl fun d _ => by rw [hX, hR, EReal.coe_mul]
  set t : Fin 2048 := ⟨128 * c.val + q0.val, by omega⟩ with ht
  rw [outAt_total m c q0 q1 t rfl]
  rw [Finset.sum_congr rfl fun d _ => share_eq_sum m x w i W d (hx d) (hw d) (hi d) (hW d) t q1 _ (hs t) _ _ (hr t 0) (hr t 1)]
  refine (Weights.sum_experts (gated x W t q1 (r t 0) (r t 1) _ _)).trans ?_
  unfold gated
  simp only [hX]
  rw [Weights.sum_routed (X t) (fun e d => W (ix3 e d q1)) _ _ _ _ (Weights.weight_nonneg _ _) (Weights.weight_nonneg _ _)]
  have hb : Layout.block ⟨2, ![128, 1024]⟩ ⟨2, ![2048, 1024]⟩ 0 16 c (Cert.ReferenceIdeal.Moe.result (F := Ideal) x w i W) (by decide) (ix2 q0 q1)
      = Cert.ReferenceIdeal.Moe.result (F := Ideal) x w i W (ix2 t q1) := by
    refine congrArg (Cert.ReferenceIdeal.Moe.result (F := Ideal) x w i W) (funext fun k => Fin.ext ?_)
    match k with
    | ⟨0, _⟩ => exact congrArg (· + q0.val) (Nat.mul_comm c.val 128)
    | ⟨1, _⟩ => rfl
  rw [hb, Cert.ReferenceIdeal.Moe.result_apply x w i W t q1 _ (hs t) _ _ (hr t 0) (hr t 1)]
  simp only [hX]

end Cert.KernelIdeal.Moe

end
-- ==== Proof.Routed.lean ====
/-
The precondition read at one entry: a real token, a real router weight, a routing index that names an expert.
-/
module

public import proofs.«01_k».proof.Pre_routed_finite_KernelIdeal
public import Idealize.ShloMosaic.Lib.Pointwise

@[expose] public section

noncomputable section

namespace Cert.Routed

open Cert.Pre_routed_finite_KernelIdeal
open Idealize.ShloMosaic

set_option maxRecDepth 16384

/-- The shape facts the predicate states. -/
instance facts : Cert.Pre_routed_finite_KernelIdeal.Facts where
  bcast_S_S2048x2 := by decide
  bcast_S_S2048x512 := by decide
  bcast_S_S512x64 := by decide

/-- A truth bit that is set is a truth. -/
theorem bit_true {b : Bool} (h : BitVec.ofBool b = 1#1) : b = true := by revert h; cases b <;> decide
/-- A conjunction that is set has both bits set. -/
theorem and_true : ∀ a b : BitVec 1, IntOp.andi a b = 1#1 → a = 1#1 ∧ b = 1#1 := by decide

/-- A word in the experts' range is an expert's index. -/
theorem word_names (v : BitVec 32) (h : IntOp.andi (IntOp.cmpi .sge v 0#32) (IntOp.cmpi .slt v 64#32) = 1#1) : ∃ r : Fin 64, v = BitVec.ofNat 32 r.val := by
  obtain ⟨h0, h1⟩ := and_true _ _ h
  have h0 : (0 : ℤ) ≤ v.toInt := by simpa [BitVec.sle] using bit_true h0
  have h1 : v.toInt < 64 := by simpa [BitVec.slt] using bit_true h1
  have hv := v.isLt
  have hn : v.toNat < 64 := by rw [BitVec.toInt_eq_toNat_cond] at h0 h1; split at h0 <;> omega
  exact ⟨⟨v.toNat, hn⟩, BitVec.eq_of_toNat_eq (by rw [BitVec.toNat_ofNat, Nat.mod_eq_of_lt hv])⟩

/-- An extended real whose magnitude is below the top is real. -/
theorem value_real (v : EReal) (h : BitVec.ofBool (decide (FloatOps.absf (F := Ideal) (φ := .f32) v < Ideal.ofBits .f32 0x7F800000#32)) = 1#1) :
    ∃ r : ℝ, v = (r : EReal) := by
  have hm : FloatOps.absf (F := Ideal) (φ := .f32) v < Ideal.ofBits .f32 0x7F800000#32 := of_decide_eq_true (bit_true h)
  rw [show Ideal.ofBits .f32 0x7F800000#32 = (⊤ : EReal) by simp [Ideal.ofBits, Ideal.ieee]] at hm
  have hm : max v (-v) < ⊤ := hm
  induction v with
  | bot => simp at hm
  | top => simp at hm
  | coe r => exact ⟨r, rfl⟩

variable (x : FVec Ideal S2048x512 .f32) (w : FVec Ideal S512x64 .f32) (i : IVec S2048x2 32) (W : FVec Ideal S4x512x1024 .f32)

/-- Every token's entries are real. -/
theorem token_real (h : (fn (F := Ideal) x w i W).1 = fun _ => 1#1) (t : Fin 2048) (d : Fin 512) : ∃ r : ℝ, x (ix2 t d) = (r : EReal) := by
  have h := congrFun h (ix2 t d)
  revert h
  pointwise [fn]
  exact value_real _

/-- Every router weight is real. -/
theorem router_real (h : (fn (F := Ideal) x w i W).2.1 = fun _ => 1#1) (d : Fin 512) (e : Fin 64) : ∃ r : ℝ, w (ix2 d e) = (r : EReal) := by
  have h := congrFun h (ix2 d e)
  revert h
  pointwise [fn]
  exact value_real _

/-- Every routing index names an expert. -/
theorem index_names (h : (fn (F := Ideal) x w i W).2.2 = fun _ => 1#1) (t : Fin 2048) (k : Fin 2) : ∃ r : Fin 64, i (ix2 t k) = BitVec.ofNat 32 r.val := by
  have h := congrFun h (ix2 t k)
  revert h
  pointwise [fn]
  exact word_names _

end Cert.Routed

end
-- ==== Proof.Printed.lean ====
module

public import proofs.«01_k».proof.Defs
public import proofs.«01_k».proof.Proof.Gen.Kernel
public import proofs.«01_k».proof.Proof.KernelIdeal.Run

/-! The printed program and the idealized one are the same text: no rewrite applied. Their body tables
    are therefore equal, and the run proved of the idealized program is the printed program's too. -/

@[expose] public section

noncomputable section

namespace Cert.Printed

open Idealize.ShloMosaic Idealize.SL.Sem

local instance : Cert.Kernel.Facts := Cert.Kernel.Gen.facts
local instance : Cert.KernelIdeal.Facts := Cert.KernelIdeal.Gen.facts

set_option maxRecDepth 100000
set_option maxHeartbeats 4000000

/-- The kernels' body tables agree. -/
theorem defs₀_eq : Cert.Kernel.defs₀ (F := Bits) = Cert.KernelIdeal.defs₀ (F := Bits) := by
  refine congrArg (Defs.onTc (nD := 16) (τ := Topo.v7x) (sig := Cert.KernelIdeal.sig) (Λ := Cert.KernelIdeal.Λ₀)) ?_
  funext l a
  match l, a with
  | 0, (t, s) => exact congrFun rfl _

/-- The programs' body tables agree. -/
theorem defs_eq : Cert.Kernel.defs (F := Bits) = Cert.KernelIdeal.defs (F := Bits) :=
  congrArg (Pipeline.defs Cert.KernelIdeal.pcfgs) defs₀_eq

/-- The printed kernel runs, leaving its arguments and every counter as they were. -/
theorem quiescent : Cert.quiescent_Kernel := fun m g _ => by
  have h := Cert.KernelIdeal.Moe.quiescent (F := Bits) m g
  rw [← defs_eq] at h
  exact h

end Cert.Printed

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdeal.Run
public import proofs.«01_k».proof.Proof.KernelIdeal.Result
public import proofs.«01_k».proof.Proof.Reference
public import proofs.«01_k».proof.Proof.Routed
public import proofs.«01_k».proof.Proof.Printed
public import Idealize.ShloMosaic.Adequacy
public import Idealize.ShloMosaic.Init

@[expose] public section

noncomputable section

namespace Cert.Proof

open Idealize.ShloMosaic Idealize.SL.Sem

/-- The reference is a straight line of host operations and declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The shape facts the predicate states over the reference's arguments. -/
instance routed_facts : Cert.Pre_routed_finite_ReferenceIdeal.Facts where
  bcast_S_S2048x2 := by decide
  bcast_S_S2048x512 := by decide
  bcast_S_S512x64 := by decide

/-- OVER THE EXTENDED REALS device `c`'s result is block `c` of the reference's: the reference's value is its own run's;
    the kernel's is read off the launch, device `c`'s arguments being the reference's, the experts cut in sixteen. -/
theorem algebraic : Cert.algebraic_KernelIdeal_ReferenceIdeal_pre_routed_finite_KernelIdeal (hKernelIdeal := Cert.KernelIdeal.Gen.facts)
    (hReferenceIdeal := Cert.ReferenceIdeal.Gen.facts) (hPre_routed_finite_KernelIdeal := Cert.Routed.facts) := by
  intro m g m' g' hpre hagree
  refine ⟨Cert.ReferenceIdeal.Value.res_out0 m' 0, ?_, (θ_run Cert.ReferenceIdeal.defs _ _).mono (fun r h => h 0) (Cert.ReferenceIdeal.Value.run (F := Ideal) m' g')⟩
  obtain ⟨h0, h1, h2⟩ := hpre 0
  rw [(hagree 0).1, (hagree 0).2.1, (hagree 0).2.2.1] at h0 h1 h2
  choose X hX using Cert.Routed.token_real _ _ _ _ h0
  choose R hR using Cert.Routed.router_real _ _ _ _ h1
  choose e he using Cert.Routed.index_names _ _ _ _ h2
  refine (θ_run Cert.KernelIdeal.defs _ _).mono (fun r h c => ⟨?_, (h.1 c 0).trans (Cert.KernelIdeal.Moe.finalA_in m g c 0 (by decide)),
    (h.1 c 1).trans (Cert.KernelIdeal.Moe.finalA_in m g c 1 (by decide)), (h.1 c 2).trans (Cert.KernelIdeal.Moe.finalA_in m g c 2 (by decide)),
    (h.1 c 3).trans (Cert.KernelIdeal.Moe.finalA_in m g c 3 (by decide))⟩) (Cert.KernelIdeal.Moe.run_main (F := Ideal) m g)
  rw [Cert.ReferenceIdeal.Moe.res_eq]
  refine ((h.1 c 4).trans (Cert.KernelIdeal.Moe.finalA_out m g c)).trans ?_
  exact Cert.KernelIdeal.Moe.outAt_block m _ _ _ _ (fun d => (Cert.KernelIdeal.Moe.xs_eq m d).trans (hagree d).1)
    (fun d => (Cert.KernelIdeal.Moe.rws_eq m d).trans (hagree d).2.1) (fun d => (Cert.KernelIdeal.Moe.ids_eq m d).trans (hagree d).2.2.1)
    (fun d => (Cert.KernelIdeal.Moe.ews_eq m d).trans (hagree d).2.2.2) X hX R hR e he c

theorem claim : Cert.Claim :=
  ⟨Cert.Kernel.Gen.facts, Cert.KernelIdeal.Gen.facts, Cert.ReferenceIdeal.Gen.facts, Cert.Routed.facts, routed_facts,
    Cert.Printed.quiescent, fun m g _ => Cert.KernelIdeal.Moe.quiescent (F := Ideal) m g, fun m g _ => Cert.KernelIdeal.Moe.quiescent (F := Ideal) m g,
    frame_reference, fun m g _ => frame_reference m g trivial, trivial, algebraic⟩

end Cert.Proof

end
